-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_points_finite [hPre_points_finite : Cert.Pre_points_finite.Facts] (m : (ℓ : Loc Cert.KernelIdeal.nD Cert.KernelIdeal.τ Cert.KernelIdeal.sig) → Buf (Elt Ideal) ℓ) : Prop :=
  ∀ c : Dev Cert.KernelIdeal.nD,
    (Cert.Pre_points_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_points_finite [hPre_points_finite : Cert.Pre_points_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_points_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_points_finite [hKernelIdeal : Cert.KernelIdeal.Facts] [hPre_points_finite : Cert.Pre_points_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_points_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_points_finite [hReferenceIdeal : Cert.ReferenceIdeal.Facts] [hPre_points_finite : Cert.Pre_points_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_points_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_points_finite [hKernelIdeal : Cert.KernelIdeal.Facts] [hReferenceIdeal : Cert.ReferenceIdeal.Facts] [hPre_points_finite : Cert.Pre_points_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_points_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_points_finite : Cert.Pre_points_finite.Facts),
    quiescent_Kernel (hKernel := hKernel)
    ∧ quiescent_KernelIdeal (hKernelIdeal := hKernelIdeal)
    ∧ quiescent_KernelIdeal_pre_points_finite (hKernelIdeal := hKernelIdeal) (hPre_points_finite := hPre_points_finite)
    ∧ quiescent_ReferenceIdeal (hReferenceIdeal := hReferenceIdeal)
    ∧ quiescent_ReferenceIdeal_pre_points_finite (hReferenceIdeal := hReferenceIdeal) (hPre_points_finite := hPre_points_finite)
    ∧ preserves_Kernel_KernelIdeal
    ∧ algebraic_KernelIdeal_ReferenceIdeal_pre_points_finite (hKernelIdeal := hKernelIdeal) (hReferenceIdeal := hReferenceIdeal) (hPre_points_finite := hPre_points_finite)
-- ==== Pre_points_finite.lean ====
abbrev S8192x2 : Shape := ⟨2, ![8192, 2]⟩
abbrev S_ : Shape := ⟨0, ![]⟩

class Facts : Prop where
  bcast_S_S8192x2 : S_.BroadcastsInDim S8192x2 (![] : Fin 0 → Fin S8192x2.rank)
  reducesTo_S8192x2_S_d0_1 : S8192x2.ReducesTo [0, 1] S_
  h_S_ : 0 < S_.numel

variable [Facts]

def fn {F : FTy → Type} [FloatOps F] (main_arg0 : FVec F S8192x2 .f32) (main_arg1 : FVec F S8192x2 .f32) (main_arg2 : FVec F S_ .f32) (main_arg3 : FVec F S_ .f32) : IVec S_ 1 :=
  let main_v0 : FVec F S8192x2 .f32 := Host.absf main_arg0
  let main_cst : FVec F S_ .f32 := constant S_ .f32 0x7F800000#32
  let main_v1 : FVec F S8192x2 .f32 := broadcastInDim S8192x2 ![] bcast_S_S8192x2 main_cst
  let main_v2 : IVec S8192x2 1 := cmpf .olt main_v0 main_v1
  let main_c : IVec S_ 1 := constantI S_ 1 1#1
  let main_v3 : IVec S_ 1 := (fun x v => Host.reduce IntOp.andi x v reducesTo_S8192x2_S_d0_1 h_S_) main_v2 main_c
  let main_v4 : FVec F S8192x2 .f32 := Host.absf main_arg1
  let main_cst_0 : FVec F S_ .f32 := constant S_ .f32 0x7F800000#32
  let main_v5 : FVec F S8192x2 .f32 := broadcastInDim S8192x2 ![] bcast_S_S8192x2 main_cst_0
  let main_v6 : IVec S8192x2 1 := cmpf .olt main_v4 main_v5
  let main_c_1 : IVec S_ 1 := constantI S_ 1 1#1
  let main_v7 : IVec S_ 1 := (fun x v => Host.reduce IntOp.andi x v reducesTo_S8192x2_S_d0_1 h_S_) main_v6 main_c_1
  let main_v8 : IVec S_ 1 := andi main_v3 main_v7
  main_v8
-- ==== Kernel.lean ====
abbrev S8192x2 : Shape := ⟨2, ![8192, 2]⟩
abbrev S_ : Shape := ⟨0, ![]⟩
abbrev S2x8192 : Shape := ⟨2, ![2, 8192]⟩
abbrev S8192x1 : Shape := ⟨2, ![8192, 1]⟩
abbrev S1x8192 : Shape := ⟨2, ![1, 8192]⟩
abbrev S1 : Shape := ⟨1, ![1]⟩
abbrev S512x2 : Shape := ⟨2, ![512, 2]⟩
abbrev S512x1 : Shape := ⟨2, ![512, 1]⟩
abbrev S512 : Shape := ⟨1, ![512]⟩
abbrev S8192 : Shape := ⟨1, ![8192]⟩
abbrev S512x8192 : Shape := ⟨2, ![512, 8192]⟩
abbrev S1x512x1 : Shape := ⟨3, ![1, 512, 1]⟩
abbrev S1x1x1 : Shape := ⟨3, ![1, 1, 1]⟩
abbrev S1x1x8192 : Shape := ⟨3, ![1, 1, 8192]⟩

abbrev nBuf : Space → Nat
  | .hbm => 20
  | .vmem => 8
  | .smem => 3
  | _ => 0

abbrev bufTy : (tb : Table) → Fin (tcTables nBuf tb) → BufTy
  | .hbm, ⟨0, _⟩ => ⟨S8192x2, .f32⟩
  | .hbm, ⟨1, _⟩ => ⟨S8192x2, .f32⟩
  | .hbm, ⟨2, _⟩ => ⟨S_, .f32⟩
  | .hbm, ⟨3, _⟩ => ⟨S_, .f32⟩
  | .hbm, ⟨4, _⟩ => ⟨S2x8192, .f32⟩
  | .hbm, ⟨5, _⟩ => ⟨S8192x1, .i32⟩
  | .hbm, ⟨6, _⟩ => ⟨S1x8192, .i32⟩
  | .hbm, ⟨7, _⟩ => ⟨S1, .f32⟩
  | .hbm, ⟨8, _⟩ => ⟨S1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S8192, .i32⟩
  | .hbm, ⟨19, _⟩ => ⟨S8192, .i32⟩
  | .local _ .vmem, ⟨0, _⟩ => ⟨S512x2, .f32⟩
  | .local _ .vmem, ⟨1, _⟩ => ⟨S512x2, .f32⟩
  | .local _ .vmem, ⟨2, _⟩ => ⟨S2x8192, .f32⟩
  | .local _ .vmem, ⟨3, _⟩ => ⟨S512x1, .i32⟩
  | .local _ .vmem, ⟨4, _⟩ => ⟨S512x1, .i32⟩
  | .local _ .vmem, ⟨5, _⟩ => ⟨S1x8192, .i32⟩
  | .local _ .vmem, ⟨6, _⟩ => ⟨S1x8192, .f32⟩
  | .local _ .vmem, ⟨7, _⟩ => ⟨S1x8192, .f32⟩
  | .local _ .smem, ⟨0, _⟩ => ⟨S1, .f32⟩
  | .local _ .smem, ⟨1, _⟩ => ⟨S1, .f32⟩
  | .local _ .smem, ⟨2, _⟩ => ⟨S1, .f32⟩
  | _, _ => ⟨S8192x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_stg4_0 : Ref sig .tc := ⟨.smem, 0, rfl⟩
abbrev cc0_stg5_0 : Ref sig .tc := ⟨.smem, 1, rfl⟩
abbrev cc0_scratch2 : Ref sig .tc := ⟨.smem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v109 : BitVec 1 := Scalar.cmpi .eq arg0 c15_i32
  let v110 : BitVec 32 := Scalar.extui v109
  let c0_i32_40 : BitVec 32 := 0#32
  let v111 : BitVec 1 := Scalar.cmpi .ne v110 c0_i32_40
  v111

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S512x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S8192x2 : Shape := ⟨2, ![8192, 2]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S2x8192 : Shape := ⟨2, ![2, 8192]⟩

abbrev nBuf : Space → Nat
  | .hbm => 95
  | .vmem => 0
  | .smem => 0
  | _ => 0

abbrev bufTy : (tb : Table) → Fin (tcTables nBuf tb) → BufTy
  | .hbm, ⟨0, _⟩ => ⟨S8192x2, .f32⟩
  | .hbm, ⟨1, _⟩ => ⟨S8192x2, .f32⟩
  | .hbm, ⟨2, _⟩ => ⟨S_, .f32⟩
  | .hbm, ⟨3, _⟩ => ⟨S_, .f32⟩
  | .hbm, ⟨4, _⟩ => ⟨S8192x2, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x2, .f32⟩
  | .hbm, ⟨9, _⟩ => ⟨S_, .f32⟩
  | .hbm, ⟨10, _⟩ => ⟨S8192, .f32⟩
  | .hbm, ⟨11, _⟩ => ⟨S1x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S2x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S8192x8192, .i32⟩
  | .hbm, ⟨26, _⟩ => ⟨S_, .f32⟩
  | .hbm, ⟨27, _⟩ => ⟨S_, .i32⟩
  | .hbm, ⟨28, _⟩ => ⟨S8192, .f32⟩
  | .hbm, ⟨29, _⟩ => ⟨S8192, .i32⟩
  | .hbm, ⟨30, _⟩ => ⟨S8192x2, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S8192x2, .f32⟩
  | .hbm, ⟨35, _⟩ => ⟨S_, .f32⟩
  | .hbm, ⟨36, _⟩ => ⟨S8192, .f32⟩
  | .hbm, ⟨37, _⟩ => ⟨S1x8192, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S2x8192, .f32⟩
  | .hbm, ⟨42, _⟩ => ⟨S8192x8192, .f32⟩
  | .hbm, ⟨43, _⟩ => ⟨S_, .f32⟩
  | .hbm, ⟨44, _⟩ => ⟨S8192x8192, .f32⟩
  | .hbm, ⟨45, _⟩ => ⟨S8192x8192, .f32⟩
  | .hbm, ⟨46, _⟩ => ⟨S8192x8192, .f32⟩
  | .hbm, ⟨47, _⟩ => ⟨S_, .f32⟩
  | .hbm, ⟨48, _⟩ => ⟨S8192x8192, .f32⟩
  | .hbm, ⟨49, _⟩ => ⟨S8192x8192, .f32⟩
  | .hbm, ⟨50, _⟩ => ⟨S8192x8192, .f32⟩
  | .hbm, ⟨51, _⟩ => ⟨S8192x8192, .i32⟩
  | .hbm, ⟨52, _⟩ => ⟨S_, .f32⟩
  | .hbm, ⟨53, _⟩ => ⟨S_, .i32⟩
  | .hbm, ⟨54, _⟩ => ⟨S8192, .f32⟩
  | .hbm, ⟨55, _⟩ => ⟨S8192, .i32⟩
  | .hbm, ⟨56, _⟩ => ⟨S_, .i32⟩
  | .hbm, ⟨57, _⟩ => ⟨S8192, .i32⟩
  | .hbm, ⟨58, _⟩ => ⟨S8192, .i1⟩
  | .hbm, ⟨59, _⟩ => ⟨S_, .i32⟩
  | .hbm, ⟨60, _⟩ => ⟨S8192, .i32⟩
  | .hbm, ⟨61, _⟩ => ⟨S8192, .i32⟩
  | .hbm, ⟨62, _⟩ => ⟨S8192, .i32⟩
  | .hbm, ⟨63, _⟩ => ⟨S8192x1, .i32⟩
  | .hbm, ⟨64, _⟩ => ⟨S8192x2, .f32⟩
  | .hbm, ⟨65, _⟩ => ⟨S8192x2, .f32⟩
  | .hbm, ⟨66, _⟩ => ⟨S8192x2, .f32⟩
  | .hbm, ⟨67, _⟩ => ⟨S8192x2, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .i32⟩
  | .hbm, ⟨76, _⟩ => ⟨S8192, .i32⟩
  | .hbm, ⟨77, _⟩ => ⟨S8192, .i1⟩
  | .hbm, ⟨78, _⟩ => ⟨S_, .i32⟩
  | .hbm, ⟨79, _⟩ => ⟨S8192, .i32⟩
  | .hbm, ⟨80, _⟩ => ⟨S8192, .i32⟩
  | .hbm, ⟨81, _⟩ => ⟨S8192, .i32⟩
  | .hbm, ⟨82, _⟩ => ⟨S8192x1, .i32⟩
  | .hbm, ⟨83, _⟩ => ⟨S8192x2, .f32⟩
  | .hbm, ⟨84, _⟩ => ⟨S8192x2, .f32⟩
  | .hbm, ⟨85, _⟩ => ⟨S8192x2, .f32⟩
  | .hbm, ⟨86, _⟩ => ⟨S8192x2, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | _, _ => ⟨S8192x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_cst : Ref sig .tc := ⟨.hbm, 26, rfl⟩
abbrev main_call0_c : Ref sig .tc := ⟨.hbm, 27, rfl⟩
abbrev main_call0_v1_0 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call1_v0 : Ref sig .tc := ⟨.hbm, 51, rfl⟩
abbrev main_call1_cst : Ref sig .tc := ⟨.hbm, 52, rfl⟩
abbrev main_call1_c : Ref sig .tc := ⟨.hbm, 53, rfl⟩
abbrev main_call1_v1_0 : Ref sig .tc := ⟨.hbm, 54, rfl⟩
abbrev main_v35 : Ref sig .tc := ⟨.hbm, 55, rfl⟩
abbrev main_c : Ref sig .tc := ⟨.hbm, 56, rfl⟩
abbrev main_v36 : Ref sig .tc := ⟨.hbm, 57, rfl⟩
abbrev main_v37 : Ref sig .tc := ⟨.hbm, 58, rfl⟩
abbrev main_c_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_8 : Ref sig .tc := ⟨.hbm, 68, rfl⟩
abbrev main_v46 : Ref sig .tc := ⟨.hbm, 69, rfl⟩
abbrev main_cst_9 : Ref sig .tc := ⟨.hbm, 70, rfl⟩
abbrev main_v47 : Ref sig .tc := ⟨.hbm, 71, rfl⟩
abbrev main_v48 : Ref sig .tc := ⟨.hbm, 72, rfl⟩
abbrev main_cst_10 : Ref sig .tc := ⟨.hbm, 73, rfl⟩
abbrev main_v49 : Ref sig .tc := ⟨.hbm, 74, rfl⟩
abbrev main_c_11 : Ref sig .tc := ⟨.hbm, 75, rfl⟩
abbrev main_v50 : Ref sig .tc := ⟨.hbm, 76, rfl⟩
abbrev main_v51 : Ref sig .tc := ⟨.hbm, 77, rfl⟩
abbrev main_c_12 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_13 : Ref sig .tc := ⟨.hbm, 87, rfl⟩
abbrev main_v60 : Ref sig .tc := ⟨.hbm, 88, rfl⟩
abbrev main_cst_14 : Ref sig .tc := ⟨.hbm, 89, rfl⟩
abbrev main_v61 : Ref sig .tc := ⟨.hbm, 90, rfl⟩
abbrev main_v62 : Ref sig .tc := ⟨.hbm, 91, rfl⟩
abbrev main_cst_15 : Ref sig .tc := ⟨.hbm, 92, rfl⟩
abbrev main_v63 : Ref sig .tc := ⟨.hbm, 93, rfl⟩
abbrev main_v64 : Ref sig .tc := ⟨.hbm, 94, rfl⟩

abbrev nD : Nat := 1
abbrev τ : Topo := Topo.v7x

variable {F : FTy → Type} [FloatOps F]
-- ==== Proof.Step.lean ====
module

public import proofs.«01_k».proof.Proof.Gen.KernelIdeal.Frame
public import Idealize.ShloMosaic.Lib.Pipeline.ValueKit
public import Idealize.ShloMosaic.Lib.ValueIdx
public import Idealize.ShloMosaic.Lib.Pointwise

/-!
# What one grid point leaves in each output block and each scratch buffer

The first point (`A`) starts the column state afresh, a middle point (`B`) updates what the point before left,
and the last point (`C`) also writes the two error sums. Each theorem names the value of one buffer after one
point, in the region's own payloads over the two blocks of operands the point loads.
-/

@[expose] public section

set_option maxRecDepth 16384

noncomputable section

namespace Cert.KernelIdeal.Step

open Cert.KernelIdeal Cert.KernelIdeal.Gen Idealize.ShloMosaic Idealize.ShloMosaic.TcCoe Idealize.SL.Sem

variable (m : (ℓ : Loc nD τ sig) → Buf (Elt Ideal) ℓ)

/-- The distances of point `t`'s 512 rows to all the columns. -/
def dist (c : Dev nD) (t : Fin cfg0.N) : FVec Ideal S512x8192 .f32 := k0_pay12 (F := Ideal) (iblk m c 0 t) (iblk m c 1 t)

/-- For each column the least of point `t`'s distances. -/
def cmin (c : Dev nD) (t : Fin cfg0.N) : FVec Ideal S1x8192 .f32 := k0_pay19 (F := Ideal) (dist m c t)

/-- For each column the absolute differences to the row of point `t` that attains the least distance. -/
def cabs (c : Dev nD) (t : Fin cfg0.N) : FVec Ideal S1x8192 .f32 :=
  k0_pay21 (F := Ideal) (k0_pay8 (F := Ideal) (iblk m c 0 t)) (k0_pay9 (F := Ideal) (iblk m c 0 t)) (k0_pay10 (F := Ideal) (iblk m c 1 t))
    (k0_pay11 (F := Ideal) (iblk m c 1 t)) (dist m c t) (iota Kind.tc S512x8192 32 [0] iota_S512x8192_d0_w32)

/-- For each column the index, in the whole array, of the row of point `t` that attains the least distance. -/
def cidx (c : Dev nD) (t : Fin cfg0.N) : IVec S1x8192 32 :=
  k0_pay22 (F := Ideal) (BitVec.ofNat 32 (grid0.coords t 0).val) (dist m c t) (iota Kind.tc S512x8192 32 [0] iota_S512x8192_d0_w32)

/-- For each row of point `t` the absolute differences to the column that attains the least distance. -/
def rabs (c : Dev nD) (t : Fin cfg0.N) : FVec Ideal S512x1 .f32 :=
  k0_pay18 (F := Ideal) (k0_pay8 (F := Ideal) (iblk m c 0 t)) (k0_pay9 (F := Ideal) (iblk m c 0 t))
    (k0_pay14 (F := Ideal) (iblk m c 0 t) (iblk m c 1 t)) (k0_pay15 (F := Ideal) (iblk m c 0 t) (iblk m c 1 t))
    (k0_pay16 (F := Ideal) (iblk m c 1 t)) (k0_pay17 (F := Ideal))

/-- At the first point: the row indices. -/
theorem o2_A (c : Dev nD) (t : Fin cfg0.N) (h0 : t.val % 16 = 0) (h1 : ¬t.val % 16 = 15) :
    (outsAt0 m c t.val t.isLt).1 = k0_pay13 (F := Ideal) (iblk m c 0 t) (iblk m c 1 t) := by
  rw [outsAt0_A m c t h0 h1]
  dsimp only
  frame_out
  try simp only [(Memref.isWhole_whole cc0_scratch0).read_unread, (Memref.isWhole_whole cc0_scratch1).read_unread, (Memref.isWhole_whole cc0_scratch2).read_unread]

/-- At the first point: the column indices. -/
theorem o3_A (c : Dev nD) (t : Fin cfg0.N) (h0 : t.val % 16 = 0) (h1 : ¬t.val % 16 = 15) :
    (outsAt0 m c t.val t.isLt).2.1 = k0_pay3 (F := Ideal) (cmin m c t) (cidx m c t) (k0_pay23 (F := Ideal)) k0_pay24 := by
  rw [outsAt0_A m c t h0 h1]
  dsimp only
  frame_out
  try simp only [(Memref.isWhole_whole cc0_scratch0).read_unread, (Memref.isWhole_whole cc0_scratch1).read_unread, (Memref.isWhole_whole cc0_scratch2).read_unread]
  rfl

/-- At the first point: the column minima. -/
theorem s0_A (c : Dev nD) (t : Fin cfg0.N) (h0 : t.val % 16 = 0) (h1 : ¬t.val % 16 = 15) :
    (outsAt0 m c t.val t.isLt).2.2.2.2.1 = k0_pay2 (F := Ideal) (cmin m c t) (k0_pay23 (F := Ideal)) (k0_pay23 (F := Ideal)) := by
  rw [outsAt0_A m c t h0 h1]
  dsimp only
  frame_out
  try simp only [(Memref.isWhole_whole cc0_scratch0).read_unread, (Memref.isWhole_whole cc0_scratch1).read_unread, (Memref.isWhole_whole cc0_scratch2).read_unread]
  rfl

/-- At the first point: the column differences. -/
theorem s1_A (c : Dev nD) (t : Fin cfg0.N) (h0 : t.val % 16 = 0) (h1 : ¬t.val % 16 = 15) :
    (outsAt0 m c t.val t.isLt).2.2.2.2.2.1 = k0_pay4 (F := Ideal) (cmin m c t) (cabs m c t) (k0_pay23 (F := Ideal)) (k0_pay25 (F := Ideal)) := by
  rw [outsAt0_A m c t h0 h1]
  dsimp only
  frame_out
  try simp only [(Memref.isWhole_whole cc0_scratch0).read_unread, (Memref.isWhole_whole cc0_scratch1).read_unread, (Memref.isWhole_whole cc0_scratch2).read_unread]
  rfl

/-- At the first point: the running row sum. -/
theorem s2_A (c : Dev nD) (t : Fin cfg0.N) (h0 : t.val % 16 = 0) (h1 : ¬t.val % 16 = 15) :
    (outsAt0 m c t.val t.isLt).2.2.2.2.2.2 = fun _ => k0_pay5 (F := Ideal) (rabs m c t) ((Ideal.ofBits .f32 0x00000000#32)) := by
  rw [outsAt0_A m c t h0 h1]
  dsimp only
  frame_out
  try simp only [(Memref.isWhole_whole cc0_scratch0).read_unread, (Memref.isWhole_whole cc0_scratch1).read_unread, (Memref.isWhole_whole cc0_scratch2).read_unread]
  rfl

/-- At a middle point: the row indices. -/
theorem o2_B (c : Dev nD) (t : Fin cfg0.N) (h0 : ¬t.val % 16 = 0) (h1 : ¬t.val % 16 = 15) :
    (outsAt0 m c t.val t.isLt).1 = k0_pay13 (F := Ideal) (iblk m c 0 t) (iblk m c 1 t) := by
  rw [outsAt0_B m c t h0 h1]
  dsimp only
  frame_out
  try simp only [(Memref.isWhole_whole cc0_scratch0).read_unread, (Memref.isWhole_whole cc0_scratch1).read_unread, (Memref.isWhole_whole cc0_scratch2).read_unread]

/-- At a middle point: the column indices. -/
theorem o3_B (c : Dev nD) (t : Fin cfg0.N) (h0 : ¬t.val % 16 = 0) (h1 : ¬t.val % 16 = 15) :
    (outsAt0 m c t.val t.isLt).2.1 = k0_pay3 (F := Ideal) (cmin m c t) (cidx m c t) (outsAt0 m c (t.val - 1) (by omega)).2.2.2.2.1 (outsAt0 m c (t.val - 1) (by omega)).2.1 := by
  rw [outsAt0_B m c t h0 h1]
  dsimp only
  frame_out
  try simp only [(Memref.isWhole_whole cc0_scratch0).read_unread, (Memref.isWhole_whole cc0_scratch1).read_unread, (Memref.isWhole_whole cc0_scratch2).read_unread]
  rfl

/-- At a middle point: the column minima. -/
theorem s0_B (c : Dev nD) (t : Fin cfg0.N) (h0 : ¬t.val % 16 = 0) (h1 : ¬t.val % 16 = 15) :
    (outsAt0 m c t.val t.isLt).2.2.2.2.1 = k0_pay2 (F := Ideal) (cmin m c t) (outsAt0 m c (t.val - 1) (by omega)).2.2.2.2.1 (outsAt0 m c (t.val - 1) (by omega)).2.2.2.2.1 := by
  rw [outsAt0_B m c t h0 h1]
  dsimp only
  frame_out
  try simp only [(Memref.isWhole_whole cc0_scratch0).read_unread, (Memref.isWhole_whole cc0_scratch1).read_unread, (Memref.isWhole_whole cc0_scratch2).read_unread]
  rfl

/-- At a middle point: the column differences. -/
theorem s1_B (c : Dev nD) (t : Fin cfg0.N) (h0 : ¬t.val % 16 = 0) (h1 : ¬t.val % 16 = 15) :
    (outsAt0 m c t.val t.isLt).2.2.2.2.2.1 = k0_pay4 (F := Ideal) (cmin m c t) (cabs m c t) (outsAt0 m c (t.val - 1) (by omega)).2.2.2.2.1 (outsAt0 m c (t.val - 1) (by omega)).2.2.2.2.2.1 := by
  rw [outsAt0_B m c t h0 h1]
  dsimp only
  frame_out
  try simp only [(Memref.isWhole_whole cc0_scratch0).read_unread, (Memref.isWhole_whole cc0_scratch1).read_unread, (Memref.isWhole_whole cc0_scratch2).read_unread]
  rfl

/-- At a middle point: the running row sum. -/
theorem s2_B (c : Dev nD) (t : Fin cfg0.N) (h0 : ¬t.val % 16 = 0) (h1 : ¬t.val % 16 = 15) :
    (outsAt0 m c t.val t.isLt).2.2.2.2.2.2 = fun _ => k0_pay5 (F := Ideal) (rabs m c t) ((outsAt0 m c (t.val - 1) (by omega)).2.2.2.2.2.2 (Shape.Idx.first (s := S1) (by decide))) := by
  rw [outsAt0_B m c t h0 h1]
  dsimp only
  frame_out
  try simp only [(Memref.isWhole_whole cc0_scratch0).read_unread, (Memref.isWhole_whole cc0_scratch1).read_unread, (Memref.isWhole_whole cc0_scratch2).read_unread]
  rfl

/-- At the last point: the row indices. -/
theorem o2_C (c : Dev nD) (t : Fin cfg0.N) (h0 : ¬t.val % 16 = 0) (h1 : t.val % 16 = 15) :
    (outsAt0 m c t.val t.isLt).1 = k0_pay13 (F := Ideal) (iblk m c 0 t) (iblk m c 1 t) := by
  rw [outsAt0_C m c t h0 h1]
  dsimp only
  frame_out
  try simp only [(Memref.isWhole_whole cc0_scratch0).read_unread, (Memref.isWhole_whole cc0_scratch1).read_unread, (Memref.isWhole_whole cc0_scratch2).read_unread]

/-- At the last point: the column indices. -/
theorem o3_C (c : Dev nD) (t : Fin cfg0.N) (h0 : ¬t.val % 16 = 0) (h1 : t.val % 16 = 15) :
    (outsAt0 m c t.val t.isLt).2.1 = k0_pay3 (F := Ideal) (cmin m c t) (cidx m c t) (outsAt0 m c (t.val - 1) (by omega)).2.2.2.2.1 (outsAt0 m c (t.val - 1) (by omega)).2.1 := by
  rw [outsAt0_C m c t h0 h1]
  dsimp only
  frame_out
  try simp only [(Memref.isWhole_whole cc0_scratch0).read_unread, (Memref.isWhole_whole cc0_scratch1).read_unread, (Memref.isWhole_whole cc0_scratch2).read_unread]
  rfl

/-- At the last point: the column minima. -/
theorem s0_C (c : Dev nD) (t : Fin cfg0.N) (h0 : ¬t.val % 16 = 0) (h1 : t.val % 16 = 15) :
    (outsAt0 m c t.val t.isLt).2.2.2.2.1 = k0_pay2 (F := Ideal) (cmin m c t) (outsAt0 m c (t.val - 1) (by omega)).2.2.2.2.1 (outsAt0 m c (t.val - 1) (by omega)).2.2.2.2.1 := by
  rw [outsAt0_C m c t h0 h1]
  dsimp only
  frame_out
  try simp only [(Memref.isWhole_whole cc0_scratch0).read_unread, (Memref.isWhole_whole cc0_scratch1).read_unread, (Memref.isWhole_whole cc0_scratch2).read_unread]
  rfl

/-- At the last point: the column differences. -/
theorem s1_C (c : Dev nD) (t : Fin cfg0.N) (h0 : ¬t.val % 16 = 0) (h1 : t.val % 16 = 15) :
    (outsAt0 m c t.val t.isLt).2.2.2.2.2.1 = k0_pay4 (F := Ideal) (cmin m c t) (cabs m c t) (outsAt0 m c (t.val - 1) (by omega)).2.2.2.2.1 (outsAt0 m c (t.val - 1) (by omega)).2.2.2.2.2.1 := by
  rw [outsAt0_C m c t h0 h1]
  dsimp only
  frame_out
  try simp only [(Memref.isWhole_whole cc0_scratch0).read_unread, (Memref.isWhole_whole cc0_scratch1).read_unread, (Memref.isWhole_whole cc0_scratch2).read_unread]
  rfl

/-- At the last point: the running row sum. -/
theorem s2_C (c : Dev nD) (t : Fin cfg0.N) (h0 : ¬t.val % 16 = 0) (h1 : t.val % 16 = 15) :
    (outsAt0 m c t.val t.isLt).2.2.2.2.2.2 = fun _ => k0_pay5 (F := Ideal) (rabs m c t) ((outsAt0 m c (t.val - 1) (by omega)).2.2.2.2.2.2 (Shape.Idx.first (s := S1) (by decide))) := by
  rw [outsAt0_C m c t h0 h1]
  dsimp only
  frame_out
  try simp only [(Memref.isWhole_whole cc0_scratch0).read_unread, (Memref.isWhole_whole cc0_scratch1).read_unread, (Memref.isWhole_whole cc0_scratch2).read_unread]
  rfl

/-- At the last point: the row sum written out. -/
theorem o4_C (c : Dev nD) (t : Fin cfg0.N) (h0 : ¬t.val % 16 = 0) (h1 : t.val % 16 = 15) :
    (outsAt0 m c t.val t.isLt).2.2.1 = fun _ => k0_pay5 (F := Ideal) (rabs m c t) ((outsAt0 m c (t.val - 1) (by omega)).2.2.2.2.2.2 (Shape.Idx.first (s := S1) (by decide))) := by
  rw [outsAt0_C m c t h0 h1]
  dsimp only
  frame_out
  try simp only [(Memref.isWhole_whole cc0_scratch0).read_unread, (Memref.isWhole_whole cc0_scratch1).read_unread, (Memref.isWhole_whole cc0_scratch2).read_unread]
  rfl

/-- At the last point: the column sum written out. -/
theorem o5_C (c : Dev nD) (t : Fin cfg0.N) (h0 : ¬t.val % 16 = 0) (h1 : t.val % 16 = 15) :
    (outsAt0 m c t.val t.isLt).2.2.2.1 = fun _ => k0_pay6 (F := Ideal) (k0_pay4 (F := Ideal) (cmin m c t) (cabs m c t) (outsAt0 m c (t.val - 1) (by omega)).2.2.2.2.1 (outsAt0 m c (t.val - 1) (by omega)).2.2.2.2.2.1) := by
  rw [outsAt0_C m c t h0 h1]
  dsimp only
  frame_out
  try simp only [(Memref.isWhole_whole cc0_scratch0).read_unread, (Memref.isWhole_whole cc0_scratch1).read_unread, (Memref.isWhole_whole cc0_scratch2).read_unread]
  rfl

end Cert.KernelIdeal.Step
-- ==== Proof.Pure.lean ====
module

public import Idealize.ShloMosaic.Lib.IdealHost
public import Idealize.ShloMosaic.Lib.SortNet.Extract
public import Idealize.ShloMosaic.Lib.Pointwise

/-!
# The mathematics of the statement, without any program

The distance of two points of the plane on the extended reals, the first index at which a function is
least, the two folds that find it (a kernel's: the least value, then the least index that attains it; a
reference's: one fold over pairs of a value and its index), the sum against a one-hot row, and the
scaling of the two error sums.
-/

@[expose] public section

noncomputable section

namespace Cert.Nearest

open Idealize.ShloMosaic

/-! ## Distances -/

/-- The distance of the points `x` and `u` of the plane: the root of `|x|² + |u|² − 2⟨x, u⟩`, raised to zero
where it is negative. -/
def dst (x u : Fin 2 → EReal) : EReal :=
  Ideal.sqrt (max (∑ a, x a * x a + ∑ a, u a * u a - Ideal.ofBits .f32 0x40000000#32 * ∑ a, x a * u a) 0)

/-- A distance doesn't depend on the order of its points. -/
theorem dst_comm (x u : Fin 2 → EReal) : dst x u = dst u x := by
  unfold dst
  rw [add_comm (∑ a, x a * x a)]
  simp only [mul_comm (x _) (u _)]

/-- The sum of the two coordinates' absolute differences of the points `x` and `u`. -/
def gap (x u : Fin 2 → EReal) : EReal := ∑ a, max (x a - u a) (-(x a - u a))

/-- The root of a square is the absolute value, at the infinities too. -/
theorem sqrt_mul_self (x : EReal) : Ideal.sqrt (x * x) = max x (-x) := by
  induction x with
  | bot => simp
  | top => simp
  | coe r =>
    rw [← EReal.coe_mul, Ideal.sqrt_coe, if_neg (not_lt.2 (mul_self_nonneg r)), Real.sqrt_mul_self_eq_abs, ← EReal.coe_neg,
      abs_eq_max_neg]
    exact (EReal.coe_strictMono.monotone.map_max)

/-- The word of `+∞` reads `⊤`. -/
theorem ofBits_inf : Ideal.ofBits .f32 0x7F800000#32 = ⊤ := by simp [Ideal.ofBits, Ideal.ieee]

/-- The word of `2` reads the number 2. -/
theorem ofBits_two : Ideal.ofBits .f32 0x40000000#32 = ((2 : ℝ) : EReal) := by
  simp [Ideal.ofBits, Ideal.ieee, -EReal.coe_mul]; norm_num

/-- Of points with finite coordinates, the distance isn't `⊤`. -/
theorem dst_lt_top (x u : Fin 2 → ℝ) : dst (fun a => (x a : EReal)) (fun a => (u a : EReal)) < ⊤ := by
  have h : ∃ r : ℝ, 0 ≤ r ∧ max (∑ a, (x a : EReal) * x a + ∑ a, (u a : EReal) * u a
      - Ideal.ofBits .f32 0x40000000#32 * ∑ a, (x a : EReal) * u a) 0 = (r : EReal) := by
    refine ⟨max (∑ a, x a * x a + ∑ a, u a * u a - 2 * ∑ a, x a * u a) 0, le_max_right _ _, ?_⟩
    rw [ofBits_two, EReal.coe_strictMono.monotone.map_max]
    simp only [Fin.sum_univ_two, EReal.coe_sub, EReal.coe_add, EReal.coe_mul, EReal.coe_zero]
  obtain ⟨r, hr, h⟩ := h
  unfold dst
  rw [h, Ideal.sqrt_coe, if_neg (not_lt.2 hr)]
  exact EReal.coe_lt_top _

/-! ## The first index at which a function is least -/

/-- `k` is the first of the indices below `n` at which `f` is least. -/
def FirstMin (n : ℕ) (f : ℕ → EReal) (k : ℕ) : Prop := k < n ∧ (∀ i < n, f k ≤ f i) ∧ ∀ i < k, f k < f i

/-- There is a first index at which a function is least. -/
theorem FirstMin.exists (f : ℕ → EReal) : ∀ n, 0 < n → ∃ k, FirstMin n f k
  | 0, h => absurd h (lt_irrefl 0)
  | 1, _ => ⟨0, by simp [FirstMin]⟩
  | n + 2, _ => by
    obtain ⟨k, hk, hle, hlt⟩ := FirstMin.exists f (n + 1) (Nat.succ_pos n)
    by_cases h : f (n + 1) < f k
    · refine ⟨n + 1, Nat.lt_succ_self _, fun i hi => ?_, fun i hi => lt_of_lt_of_le h (hle i hi)⟩
      rcases Nat.lt_succ_iff_lt_or_eq.1 hi with hi | rfl
      · exact le_of_lt (lt_of_lt_of_le h (hle i hi))
      · exact le_rfl
    · refine ⟨k, Nat.lt_succ_of_lt hk, fun i hi => ?_, hlt⟩
      rcases Nat.lt_succ_iff_lt_or_eq.1 hi with hi | rfl
      · exact hle i hi
      · exact not_lt.1 h

/-- A first least index depends only on the function's values below the bound. -/
theorem FirstMin.congr {n : ℕ} {f g : ℕ → EReal} {k : ℕ} (h : FirstMin n f k) (hfg : ∀ i < n, f i = g i) :
    FirstMin n g k :=
  ⟨h.1, fun i hi => by rw [← hfg k h.1, ← hfg i hi]; exact h.2.1 i hi,
    fun i hi => by rw [← hfg k h.1, ← hfg i (hi.trans h.1)]; exact h.2.2 i hi⟩

/-- At most one index is the first at which a function is least. -/
theorem FirstMin.unique {n : ℕ} {f : ℕ → EReal} {k l : ℕ} (hk : FirstMin n f k) (hl : FirstMin n f l) : k = l := by
  rcases lt_trichotomy k l with h | h | h
  · exact absurd (hl.2.2 k h) (not_lt.2 (hk.2.1 l hl.1))
  · exact h
  · exact absurd (hk.2.2 l h) (not_lt.2 (hl.2.1 k hk.1))

/-- Joining two ranges: where the second range's least value is smaller, it is the whole's; else the first
range's is. -/
theorem FirstMin.append {n p : ℕ} {f : ℕ → EReal} {k l : ℕ} (hk : FirstMin n f k)
    (hl : FirstMin p (fun i => f (n + i)) l) :
    FirstMin (n + p) f (if f (n + l) < f k then n + l else k) := by
  have split : ∀ i < n + p, i < n ∨ ∃ j < p, i = n + j := fun i hi => by
    rcases Nat.lt_or_ge i n with h | h
    · exact Or.inl h
    · exact Or.inr ⟨i - n, by omega, by omega⟩
  by_cases h : f (n + l) < f k
  · rw [if_pos h]
    refine ⟨by have := hl.1; omega, fun i hi => ?_, fun i hi => ?_⟩
    · rcases split i hi with hi | ⟨j, hj, rfl⟩
      · exact le_of_lt (lt_of_lt_of_le h (hk.2.1 i hi))
      · exact hl.2.1 j hj
    · rcases split i (by have := hl.1; omega) with hi' | ⟨j, hj, rfl⟩
      · exact lt_of_lt_of_le h (hk.2.1 i hi')
      · exact hl.2.2 j (by omega)
  · rw [if_neg h]
    refine ⟨by have := hk.1; omega, fun i hi => ?_, hk.2.2⟩
    rcases split i hi with hi | ⟨j, hj, rfl⟩
    · exact hk.2.1 i hi
    · exact (not_lt.1 h).trans (hl.2.1 j hj)

/-! ## The kernel's fold -/

/-- A word below `2^31` as a signed number. -/
theorem toInt_word {k : ℕ} (h : k < 2 ^ 31) : (BitVec.ofNat 32 k).toInt = k := by
  rw [BitVec.toInt_eq_toNat_of_lt] <;> rw [BitVec.toNat_ofNat, Nat.mod_eq_of_lt (by omega)]
  omega

/-- Two words below `2^31` are equal where their numbers are. -/
theorem word_inj {k l : ℕ} (hk : k < 2 ^ 31) (hl : l < 2 ^ 31) : BitVec.ofNat 32 k = BitVec.ofNat 32 l ↔ k = l :=
  ⟨fun h => by
    have := congrArg BitVec.toInt h
    rw [toInt_word hk, toInt_word hl] at this
    exact_mod_cast this, fun h => by rw [h]⟩

/-- The least of the values over a range is the value at its first least index. -/
theorem fold_min {n : ℕ} {f : ℕ → EReal} {k : ℕ} (hk : FirstMin n f k) :
    (Finset.univ : Finset (Fin n)).fold min (Ideal.ofBits .f32 0x7F800000#32) (fun x : Fin n => f x) = f k := by
  rw [ofBits_inf]
  refine le_antisymm ?_ ?_
  · exact (Finset.fold_min_le _).2 (Or.inr ⟨⟨k, hk.1⟩, Finset.mem_univ _, le_rfl⟩)
  · exact (Finset.le_fold_min _).2 ⟨le_top, fun x _ => hk.2.1 x x.2⟩

/-- The kernel's index: the least of the indices at which the value is the least one (every other index
counting as `n`) is the first least index. -/
theorem fold_minsi {n : ℕ} (hn : n < 2 ^ 31) {f : ℕ → EReal} {k : ℕ} (hk : FirstMin n f k) :
    (Finset.univ : Finset (Fin n)).fold IntOp.minsi 2147483647#32
      (fun x : Fin n => if f x = (Finset.univ : Finset (Fin n)).fold min (Ideal.ofBits .f32 0x7F800000#32) (fun x : Fin n => f x)
        then BitVec.ofNat 32 x else BitVec.ofNat 32 n) = BitVec.ofNat 32 k := by
  rw [fold_min hk]
  apply BitVec.eq_of_toInt_eq
  rw [toInt_word (hk.1.trans hn), ← Finset.fold_hom (op' := min) (m := BitVec.toInt)
    (hm := fun a b => SortNet.toInt_minsi a b)]
  refine le_antisymm ?_ ?_
  · refine (Finset.fold_min_le _).2 (Or.inr ⟨⟨k, hk.1⟩, Finset.mem_univ _, ?_⟩)
    rw [if_pos rfl, toInt_word (hk.1.trans hn)]
  · refine (Finset.le_fold_min _).2 ⟨?_, fun x _ => ?_⟩
    · have := hk.1.trans hn
      rw [show (2147483647#32).toInt = 2147483647 from by decide]
      omega
    · split
      · rename_i h
        rw [toInt_word (x.2.trans hn)]
        by_contra hc
        exact absurd h (ne_of_gt (hk.2.2 x (by omega)))
      · rw [toInt_word hn]
        exact_mod_cast le_of_lt hk.1

/-- A sum against a one-hot row takes the value at its index. -/
theorem sum_pick {n : ℕ} (hn : n < 2 ^ 31) {k : ℕ} (hk : k < n) (v : Fin n → EReal) :
    (∑ x : Fin n, Scalar.select (IntOp.cmpi CmpIPredicate.eq (BitVec.ofNat 32 x) (BitVec.ofNat 32 k)) (v x) 0)
      = v ⟨k, hk⟩ := by
  rw [Finset.sum_eq_single ⟨k, hk⟩]
  · simp [Scalar.select, IntOp.cmpi]
  · intro b _ hb
    have : ¬ BitVec.ofNat 32 b.1 = BitVec.ofNat 32 k := fun h =>
      hb (Fin.ext ((word_inj (b.2.trans hn) (hk.trans hn)).1 h))
    rw [IntOp.cmpi, beq_eq_false_iff_ne.2 this]
    rfl
  · exact fun h => absurd (Finset.mem_univ _) h

/-! ## The reference's fold -/

/-- Of two pairs of a value and an index, the one of the smaller value, of equal values the one of the smaller
index. -/
def lower (a b : EReal × BitVec 32) : EReal × BitVec 32 :=
  if a.1 < b.1 ∨ a.1 = b.1 ∧ a.2.toInt < b.2.toInt then a else b

/-- The pair `p` comes no later than `q`: its value is smaller, or equal with an index no larger. -/
def Low (p q : EReal × BitVec 32) : Prop := p.1 < q.1 ∨ p.1 = q.1 ∧ p.2.toInt ≤ q.2.toInt

/-- Folding `lower` over a list finds the pair that comes no later than any other. -/
theorem foldl_lower {p : EReal × BitVec 32} : ∀ (L : List (EReal × BitVec 32)) (a : EReal × BitVec 32),
    p ∈ a :: L → (∀ q ∈ a :: L, Low p q) → L.foldl lower a = p
  | [], a, hp, _ => (List.mem_singleton.1 hp).symm
  | b :: L, a, hp, hall => by
    rw [List.foldl_cons]
    have hor : lower a b = a ∨ lower a b = b := by unfold lower; split <;> simp
    have ha := hall a (by simp)
    have hb := hall b (by simp)
    refine foldl_lower L _ ?_ fun q hq => ?_
    · rw [List.mem_cons, List.mem_cons] at hp
      rcases hp with rfl | rfl | hp
      · rw [List.mem_cons]
        left
        unfold lower
        split
        · rfl
        · rename_i hn
          rcases hb with hb | ⟨hb, hi⟩
          · exact absurd (Or.inl hb) hn
          · refine Prod.ext hb (BitVec.eq_of_toInt_eq (le_antisymm hi ?_))
            by_contra hc
            exact hn (Or.inr ⟨hb, not_le.1 hc⟩)
      · rw [List.mem_cons]
        left
        unfold lower
        rw [if_neg]
        rintro (h | ⟨h, hi⟩)
        · rcases ha with ha | ⟨ha, _⟩
          · exact absurd (h.trans ha) (lt_irrefl _)
          · exact absurd ha (ne_of_gt h)
        · rcases ha with ha | ⟨_, ha⟩
          · exact absurd h.symm (ne_of_lt ha)
          · omega
      · exact List.mem_cons_of_mem _ hp
    · rcases List.mem_cons.1 hq with rfl | hq
      · rcases hor with h | h <;> rw [h] <;> assumption
      · exact hall q (by simp [hq])

/-- The reference's index: folding `lower` from `(⊤, 0)` over the pairs of the values of `f` below `n` and their
indices finds the first least index. -/
theorem foldl_lower_first {n : ℕ} (hn : n < 2 ^ 31) {f : ℕ → EReal} {k : ℕ} (hk : FirstMin n f k)
    (L : List (EReal × BitVec 32)) (hL : ∀ i < n, (f i, BitVec.ofNat 32 i) ∈ L)
    (hL' : ∀ q ∈ L, ∃ i < n, q = (f i, BitVec.ofNat 32 i)) :
    L.foldl lower (Ideal.ofBits .f32 0x7F800000#32, 0#32) = (f k, BitVec.ofNat 32 k) := by
  rw [ofBits_inf]
  refine foldl_lower L _ (List.mem_cons_of_mem _ (hL k hk.1)) fun q hq => ?_
  have hlow : ∀ i < n, Low (f k, BitVec.ofNat 32 k) (f i, BitVec.ofNat 32 i) := fun i hi => by
    rcases lt_or_eq_of_le (hk.2.1 i hi) with h | h
    · exact Or.inl h
    · refine Or.inr ⟨h, ?_⟩
      simp only [toInt_word (hk.1.trans hn), toInt_word (hi.trans hn)]
      by_contra hc
      exact absurd h (ne_of_lt (hk.2.2 i (by omega)))
  rcases List.mem_cons.1 hq with rfl | hq
  · rcases lt_or_eq_of_le (le_top : f k ≤ ⊤) with h | h
    · exact Or.inl h
    · refine Or.inr ⟨h, ?_⟩
      have : k = 0 := by
        by_contra hc
        exact absurd (lt_of_lt_of_le (hk.2.2 0 (Nat.pos_of_ne_zero hc)) le_top) (by rw [h]; exact lt_irrefl _)
      subst this
      exact le_rfl
  · obtain ⟨i, hi, rfl⟩ := hL' q hq
    exact hlow i hi

/-! ## The column state of the kernel -/

/-- What the kernel carries for one column after the rows below `n`: either no value below `⊤` has come, and
the state is the initial one, or the state is the least value, the first index that attains it, and `g` of
that index. -/
def Carried (n : ℕ) (f g : ℕ → EReal) (v : EReal) (i : BitVec 32) (e : EReal) : Prop :=
  (v = ⊤ ∧ i = 0#32 ∧ e = 0 ∧ ∀ k < n, f k = ⊤)
    ∨ ∃ k, FirstMin n f k ∧ v = f k ∧ i = BitVec.ofNat 32 k ∧ e = g k

/-- Before any row the state is the initial one. -/
theorem Carried.zero (f g : ℕ → EReal) : Carried 0 f g ⊤ 0#32 0 :=
  Or.inl ⟨rfl, rfl, rfl, fun k hk => absurd hk (Nat.not_lt_zero k)⟩

/-- One block of rows: the state moves to the block's where the block's least value is smaller than the state's. -/
theorem Carried.step {n p : ℕ} {f g : ℕ → EReal} {v e : EReal} {i : BitVec 32} (h : Carried n f g v i e) {l : ℕ}
    (hl : FirstMin p (fun x => f (n + x)) l) {v' e' : EReal} {i' : BitVec 32}
    (hv : v' = if f (n + l) < v then f (n + l) else v)
    (hi : i' = if f (n + l) < v then BitVec.ofNat 32 (n + l) else i)
    (he : e' = if f (n + l) < v then g (n + l) else e) : Carried (n + p) f g v' i' e' := by
  subst hv hi he
  rcases h with ⟨rfl, rfl, rfl, h⟩ | ⟨k, hk, rfl, rfl, rfl⟩
  · by_cases ht : f (n + l) < ⊤
    · right
      refine ⟨n + l, ⟨by have := hl.1; omega, fun x hx => ?_, fun x hx => ?_⟩, ?_⟩
      · rcases Nat.lt_or_ge x n with hxn | hxn
        · rw [h x hxn]; exact le_top
        · obtain ⟨y, rfl⟩ := Nat.exists_eq_add_of_le hxn
          exact hl.2.1 y (by omega)
      · rcases Nat.lt_or_ge x n with hxn | hxn
        · rw [h x hxn]; exact ht
        · obtain ⟨y, rfl⟩ := Nat.exists_eq_add_of_le hxn
          exact hl.2.2 y (by omega)
      · simp only [if_pos ht, and_self]
    · left
      simp only [if_neg ht, true_and]
      intro x hx
      rcases Nat.lt_or_ge x n with hxn | hxn
      · exact h x hxn
      · obtain ⟨y, rfl⟩ := Nat.exists_eq_add_of_le hxn
        exact top_le_iff.1 ((not_lt.1 ht).trans (hl.2.1 y (by omega)))
  · right
    refine ⟨_, hk.append hl, ?_⟩
    split <;> simp

/-- After the last row, where some value is below `⊤`, the state is that of the first least index. -/
theorem Carried.final {n : ℕ} {f g : ℕ → EReal} {v e : EReal} {i : BitVec 32} (h : Carried n f g v i e) {k : ℕ}
    (hk : FirstMin n f k) (hlt : f k < ⊤) : i = BitVec.ofNat 32 k ∧ e = g k := by
  rcases h with ⟨_, _, _, h⟩ | ⟨l, hl, _, rfl, rfl⟩
  · exact absurd (h k hk.1) (ne_of_lt hlt)
  · rw [hk.unique hl]; exact ⟨rfl, rfl⟩

/-! ## Sums and scaling -/

/-- A sum over the first `n + p` numbers is the sum over the first `n` and the next `p`. -/
theorem sum_range_block (f : ℕ → EReal) (n p : ℕ) :
    ∑ i ∈ Finset.range (n + p), f i = ∑ i ∈ Finset.range n, f i + ∑ x : Fin p, f (n + x) := by
  rw [Finset.sum_range_add, Fin.sum_univ_eq_sum_range (fun x => f (n + x))]

/-- One error term: the kernel divides once by `2^27`, the reference by 16384 and by 8192. -/
theorem scale (s w : EReal) :
    Ideal.div (s * w) (Ideal.ofBits .f32 0x4D000000#32)
      = Ideal.div (Ideal.div s (Ideal.ofBits .f32 0x46800000#32) * w) (Ideal.ofBits .f32 0x46000000#32) := by
  have h27 : Ideal.ofBits .f32 0x4D000000#32 = ((134217728 : ℝ) : EReal) := by
    simp [Ideal.ofBits, Ideal.ieee, -EReal.coe_mul]; norm_num
  have h14 : Ideal.ofBits .f32 0x46800000#32 = ((16384 : ℝ) : EReal) := by
    simp [Ideal.ofBits, Ideal.ieee, -EReal.coe_mul]; norm_num
  have h13 : Ideal.ofBits .f32 0x46000000#32 = ((8192 : ℝ) : EReal) := by
    simp [Ideal.ofBits, Ideal.ieee, -EReal.coe_mul]; norm_num
  rw [h27, h14, h13, Ideal.div_coe (by norm_num), Ideal.div_coe (by norm_num), Ideal.div_coe (by norm_num),
    mul_right_comm s _ w, mul_assoc (s * w), ← EReal.coe_mul]
  congr 2
  norm_num

end Cert.Nearest
-- ==== Proof.Block.lean ====
module

public import proofs.«01_k».proof.Proof.Step
public import proofs.«01_k».proof.Proof.Pure

/-!
# One grid point's values, in the two sets of points

A point loads 512 rows of the first set and all of the second. Its distances, its row results and its column
results are read off at one index, in the distance `dst`, the first least index `FirstMin` and the sum of
absolute differences `gap`.
-/

@[expose] public section

set_option maxRecDepth 16384

noncomputable section

namespace Cert.KernelIdeal.Step

open Cert.KernelIdeal Cert.KernelIdeal.Gen Idealize.ShloMosaic Idealize.ShloMosaic.TcCoe Idealize.SL.Sem Cert.Nearest

variable (m : (ℓ : Loc nD τ sig) → Buf (Elt Ideal) ℓ)

/-- Which block each window reads or writes at a point, and the point's number. -/
theorem idx : ∀ t : Fin cfg0.N, win0_0.index t = ![t.val, 0] ∧ win0_1.index t = ![0, 0] ∧ win0_2.index t = ![t.val, 0]
    ∧ win0_3.index t = ![0, 0] ∧ (grid0.coords t 0).val = t.val :=
  (by decide +kernel : ∀ t : Fin grid0.N, _)

/-- Point `i` of the first set. -/
def pt0 (c : Dev nD) (i : ℕ) (a : Fin 2) : EReal :=
  (m (c, Proc.tc.devRef main_arg0) : Vec Ideal S8192x2 .f32) (ix2 (Fin.ofNat 8192 i) a)

/-- Point `j` of the second set. -/
def pt1 (c : Dev nD) (j : ℕ) (a : Fin 2) : EReal :=
  (m (c, Proc.tc.devRef main_arg1) : Vec Ideal S8192x2 .f32) (ix2 (Fin.ofNat 8192 j) a)

/-- The grid has 16 points. -/
theorem lt16 (t : Fin cfg0.N) : t.val < 16 := lt_of_lt_of_eq t.isLt (show cfg0.N = 16 from N_0)

/-- A loaded row is a point of the first set. -/
theorem blk0 (c : Dev nD) (t : Fin cfg0.N) (r : Fin 512) (a : Fin 2) :
    (iblk m c 0 t : Vec Ideal S512x2 .f32) (ix2 r a) = pt0 m c (512 * t.val + r.val) a := by
  have ht := lt16 t
  unfold pt0
  blk_point [iblk, V, idx t]
  rw [Fin.val_ofNat, Nat.mod_eq_of_lt (by omega)]
  omega

/-- The transposed second set, as the region finds it. -/
theorem V_v0 (c : Dev nD) (a : Fin 2) (j : Fin 8192) :
    (V m c main_v0 : Vec Ideal S2x8192 .f32) (ix2 a j) = pt1 m c j.val a := by
  have h : (V m c main_v0 : Vec Ideal S2x8192 .f32) (ix2 a j)
      = (m (c, Proc.tc.devRef main_arg1) : Vec Ideal S8192x2 .f32) (ix2 j a) := by
    change StableHlo.after hostOps0 (fun b => m (c, b)) (Proc.tc.devRef main_v0) (ix2 a j)
      = m (c, Proc.tc.devRef main_arg1) (ix2 j a)
    after_results
    pointwise
  rw [h]
  unfold pt1
  congr 2
  exact (Fin.ext (Nat.mod_eq_of_lt j.isLt)).symm

/-- A loaded column is a point of the second set. -/
theorem blk1 (c : Dev nD) (t : Fin cfg0.N) (a : Fin 2) (j : Fin 8192) :
    (iblk m c 1 t : Vec Ideal S2x8192 .f32) (ix2 a j) = pt1 m c j.val a := by
  have : (iblk m c 1 t : Vec Ideal S2x8192 .f32) (ix2 a j) = (V m c main_v0 : Vec Ideal S2x8192 .f32) (ix2 a j) := by
    blk_point [iblk, V, idx t]
  rw [this, V_v0]

/-- The distances of a point. -/
theorem dist_at (c : Dev nD) (t : Fin cfg0.N) (r : Fin 512) (j : Fin 8192) :
    dist m c t (ix2 r j) = dst (pt0 m c (512 * t.val + r.val)) (pt1 m c j.val) := by
  unfold dist
  pointwise [k0_pay12, k0_pay7]
  simp only [blk0, blk1]
  rfl

/-- The row index of a point. -/
theorem ridx_at (c : Dev nD) (t : Fin cfg0.N) (r : Fin 512) {k : ℕ}
    (hk : FirstMin 8192 (fun j => dst (pt0 m c (512 * t.val + r.val)) (pt1 m c j)) k) :
    k0_pay13 (F := Ideal) (iblk m c 0 t) (iblk m c 1 t) (ix2 r 0) = BitVec.ofNat 32 k := by
  have h := fold_minsi (by norm_num) hk
  pointwise [k0_pay13]
  change Finset.fold IntOp.minsi _ (fun x : Fin 8192 => if dist m c t (ix2 r x)
    = Finset.fold min _ (fun x => dist m c t (ix2 r x)) Finset.univ then _ else _) Finset.univ = _
  simp only [dist_at]
  exact h

/-- The row's absolute differences. -/
theorem rabs_at (c : Dev nD) (t : Fin cfg0.N) (r : Fin 512) {k : ℕ}
    (hk : FirstMin 8192 (fun j => dst (pt0 m c (512 * t.val + r.val)) (pt1 m c j)) k) :
    rabs m c t (ix2 r 0) = gap (pt0 m c (512 * t.val + r.val)) (pt1 m c k) := by
  have h := ridx_at m c t r hk
  unfold rabs
  pointwise [k0_pay18, k0_pay8, k0_pay9, k0_pay14, k0_pay15, k0_pay16, k0_pay17, k0_pay10, k0_pay11, k0_pay7]
  rw [h, sum_pick (by norm_num) hk.1, sum_pick (by norm_num) hk.1]
  simp only [blk0, blk1]
  rw [gap, Fin.sum_univ_two]
  rfl

/-- The column minimum of a point. -/
theorem cmin_at (c : Dev nD) (t : Fin cfg0.N) (j : Fin 8192) {l : ℕ}
    (hl : FirstMin 512 (fun x => dst (pt0 m c (512 * t.val + x)) (pt1 m c j.val)) l) :
    cmin m c t (ix2 0 j) = dst (pt0 m c (512 * t.val + l)) (pt1 m c j.val) := by
  have h := fold_min hl
  unfold cmin
  pointwise [k0_pay19]
  simp only [dist_at]
  exact h

/-- The column's row within the block. -/
theorem cloc_at (c : Dev nD) (t : Fin cfg0.N) (j : Fin 8192) {l : ℕ}
    (hl : FirstMin 512 (fun x => dst (pt0 m c (512 * t.val + x)) (pt1 m c j.val)) l) :
    k0_pay20 (F := Ideal) (dist m c t) (iota Kind.tc S512x8192 32 [0] iota_S512x8192_d0_w32) (ix2 0 j)
      = BitVec.ofNat 32 l := by
  have h := fold_minsi (by norm_num) hl
  pointwise [k0_pay20, k0_pay19]
  simp only [dist_at]
  exact h

/-- The column's row within the whole array. -/
theorem cidx_at (c : Dev nD) (t : Fin cfg0.N) (j : Fin 8192) {l : ℕ}
    (hl : FirstMin 512 (fun x => dst (pt0 m c (512 * t.val + x)) (pt1 m c j.val)) l) :
    cidx m c t (ix2 0 j) = BitVec.ofNat 32 (512 * t.val + l) := by
  have h := cloc_at m c t j hl
  unfold cidx
  pointwise [k0_pay22]
  rw [h, (idx t).2.2.2.2]
  show BitVec.ofNat 32 l + BitVec.ofNat 32 t.val * 512#32 = _
  rw [add_comm, mul_comm, BitVec.ofNat_add, BitVec.ofNat_mul]

/-- The column's absolute differences. -/
theorem cabs_at (c : Dev nD) (t : Fin cfg0.N) (j : Fin 8192) {l : ℕ}
    (hl : FirstMin 512 (fun x => dst (pt0 m c (512 * t.val + x)) (pt1 m c j.val)) l) :
    cabs m c t (ix2 0 j) = gap (pt1 m c j.val) (pt0 m c (512 * t.val + l)) := by
  have h := cloc_at m c t j hl
  unfold cabs
  pointwise [k0_pay21, k0_pay8, k0_pay9, k0_pay10, k0_pay11, k0_pay7]
  rw [h, sum_pick (by norm_num) hl.1, sum_pick (by norm_num) hl.1]
  simp only [blk0, blk1]
  rw [gap, Fin.sum_univ_two]
  rfl

/-- The update of the carried column minimum. -/
theorem pay2_at (v54 : FVec Ideal S1x8192 .f32) (v86 : Vec Ideal S1x8192 .f32) (j : Fin 8192) :
    k0_pay2 (F := Ideal) v54 v86 v86 (ix2 0 j) = if v54 (ix2 0 j) < v86 (ix2 0 j) then v54 (ix2 0 j) else v86 (ix2 0 j) := by
  pointwise [k0_pay2, k0_pay1]

/-- The update of the carried column index. -/
theorem pay3_at (v54 : FVec Ideal S1x8192 .f32) (v82 : IVec S1x8192 32) (v86 : Vec Ideal S1x8192 .f32)
    (v93 : Vec Ideal S1x8192 .i32) (j : Fin 8192) :
    k0_pay3 (F := Ideal) v54 v82 v86 v93 (ix2 0 j) = if v54 (ix2 0 j) < v86 (ix2 0 j) then v82 (ix2 0 j) else v93 (ix2 0 j) := by
  pointwise [k0_pay3, k0_pay1]

/-- The update of the carried column differences. -/
theorem pay4_at (v54 v79 : FVec Ideal S1x8192 .f32) (v86 v97 : Vec Ideal S1x8192 .f32) (j : Fin 8192) :
    k0_pay4 (F := Ideal) v54 v79 v86 v97 (ix2 0 j) = if v54 (ix2 0 j) < v86 (ix2 0 j) then v79 (ix2 0 j) else v97 (ix2 0 j) := by
  pointwise [k0_pay4, k0_pay1]

/-- The running row sum. -/
theorem pay5_eq (v51 : FVec Ideal S512x1 .f32) (v : EReal) :
    k0_pay5 (F := Ideal) v51 v = v + ∑ r : Fin 512, v51 (ix2 r 0) := by
  pointwise [k0_pay5]
  simp

/-- The column sum. -/
theorem pay6_eq (v114 : Vec Ideal S1x8192 .f32) :
    k0_pay6 (F := Ideal) v114 = ∑ j : Fin 8192, v114 (ix2 0 j) := by
  pointwise [k0_pay6]
  simp

/-- The initial column state. -/
theorem init_at (j : Fin 8192) : k0_pay23 (F := Ideal) (ix2 0 j) = ⊤ ∧ k0_pay24 (ix2 0 j) = 0#32
    ∧ k0_pay25 (F := Ideal) (ix2 0 j) = 0 := by
  pointwise [k0_pay23, k0_pay24, k0_pay25]
  simp [ofBits_inf]

end Cert.KernelIdeal.Step
-- ==== Proof.Carry.lean ====
module

public import proofs.«01_k».proof.Proof.Block

/-!
# The state the kernel carries over the grid

After point `t` the column buffers hold, for each column, the state `Carried` of the first `512 (t + 1)` rows,
and the running sum holds these rows' differences. By induction over the points.
-/

@[expose] public section

set_option maxRecDepth 16384

noncomputable section

namespace Cert.KernelIdeal.Step

open Cert.KernelIdeal Cert.KernelIdeal.Gen Idealize.ShloMosaic Idealize.ShloMosaic.TcCoe Idealize.SL.Sem Cert.Nearest

variable (m : (ℓ : Loc nD τ sig) → Buf (Elt Ideal) ℓ)

/-- The point of the second set nearest to point `i` of the first, the first one of those. -/
def near0 (c : Dev nD) (i : ℕ) : ℕ :=
  Classical.choose (FirstMin.exists (fun j => dst (pt0 m c i) (pt1 m c j)) 8192 (by norm_num))

/-- `near0` is the first least index of the distances of point `i`. -/
theorem near0_spec (c : Dev nD) (i : ℕ) : FirstMin 8192 (fun j => dst (pt0 m c i) (pt1 m c j)) (near0 m c i) :=
  Classical.choose_spec (FirstMin.exists (fun j => dst (pt0 m c i) (pt1 m c j)) 8192 (by norm_num))

/-- The point of the first set nearest to point `j` of the second, the first one of those. -/
def near1 (c : Dev nD) (j : ℕ) : ℕ :=
  Classical.choose (FirstMin.exists (fun i => dst (pt0 m c i) (pt1 m c j)) 8192 (by norm_num))

/-- `near1` is the first least index of the distances of point `j`. -/
theorem near1_spec (c : Dev nD) (j : ℕ) : FirstMin 8192 (fun i => dst (pt0 m c i) (pt1 m c j)) (near1 m c j) :=
  Classical.choose_spec (FirstMin.exists (fun i => dst (pt0 m c i) (pt1 m c j)) 8192 (by norm_num))

/-- The carried state of column `j` moves one block of rows on. -/
theorem column_step (c : Dev nD) (t : Fin cfg0.N) (j : Fin 8192) (S0 : Vec Ideal S1x8192 .f32) (O3 : Vec Ideal S1x8192 .i32)
    (S1 : Vec Ideal S1x8192 .f32)
    (h : Carried (512 * t.val) (fun i => dst (pt0 m c i) (pt1 m c j.val)) (fun i => gap (pt1 m c j.val) (pt0 m c i))
      (S0 (ix2 0 j)) (O3 (ix2 0 j)) (S1 (ix2 0 j))) :
    Carried (512 * (t.val + 1)) (fun i => dst (pt0 m c i) (pt1 m c j.val)) (fun i => gap (pt1 m c j.val) (pt0 m c i))
      (k0_pay2 (F := Ideal) (cmin m c t) S0 S0 (ix2 0 j)) (k0_pay3 (F := Ideal) (cmin m c t) (cidx m c t) S0 O3 (ix2 0 j))
      (k0_pay4 (F := Ideal) (cmin m c t) (cabs m c t) S0 S1 (ix2 0 j)) := by
  obtain ⟨l, hl⟩ := FirstMin.exists (fun x => dst (pt0 m c (512 * t.val + x)) (pt1 m c j.val)) 512 (by norm_num)
  rw [Nat.mul_succ]
  refine h.step hl ?_ ?_ ?_
  · rw [pay2_at, cmin_at m c t j hl]
  · rw [pay3_at, cmin_at m c t j hl, cidx_at m c t j hl]
  · rw [pay4_at, cmin_at m c t j hl, cabs_at m c t j hl]

/-- After point `t` each column's buffers hold the state of the rows so far. -/
theorem column_state (c : Dev nD) (j : Fin 8192) : ∀ (n : ℕ) (hn : n < cfg0.N),
    Carried (512 * (n + 1)) (fun i => dst (pt0 m c i) (pt1 m c j.val)) (fun i => gap (pt1 m c j.val) (pt0 m c i))
      ((outsAt0 m c n hn).2.2.2.2.1 (ix2 0 j)) ((outsAt0 m c n hn).2.1 (ix2 0 j))
      ((outsAt0 m c n hn).2.2.2.2.2.1 (ix2 0 j))
  | 0, hn => by
    have h0 : ((⟨0, hn⟩ : Fin cfg0.N).val) % 16 = 0 := rfl
    have h1 : ¬((⟨0, hn⟩ : Fin cfg0.N).val) % 16 = 15 := by simp
    have e0 := s0_A m c ⟨0, hn⟩ h0 h1
    have e3 := o3_A m c ⟨0, hn⟩ h0 h1
    have e1 := s1_A m c ⟨0, hn⟩ h0 h1
    dsimp only at e0 e3 e1
    rw [e0, e3, e1]
    refine column_step m c ⟨0, hn⟩ j _ _ _ ?_
    rw [(init_at j).1, (init_at j).2.1, (init_at j).2.2]
    exact Carried.zero _ _
  | n + 1, hn => by
    have h16 := lt16 ⟨n + 1, hn⟩
    dsimp only at h16
    have h0 : ¬((⟨n + 1, hn⟩ : Fin cfg0.N).val) % 16 = 0 := by dsimp only; omega
    have ih := column_state c j n (by omega)
    by_cases h1 : ((⟨n + 1, hn⟩ : Fin cfg0.N).val) % 16 = 15
    · have e0 := s0_C m c ⟨n + 1, hn⟩ h0 h1
      have e3 := o3_C m c ⟨n + 1, hn⟩ h0 h1
      have e1 := s1_C m c ⟨n + 1, hn⟩ h0 h1
      dsimp only at e0 e3 e1
      rw [e0, e3, e1]
      exact column_step m c ⟨n + 1, hn⟩ j _ _ _ ih
    · have e0 := s0_B m c ⟨n + 1, hn⟩ h0 h1
      have e3 := o3_B m c ⟨n + 1, hn⟩ h0 h1
      have e1 := s1_B m c ⟨n + 1, hn⟩ h0 h1
      dsimp only at e0 e3 e1
      rw [e0, e3, e1]
      exact column_step m c ⟨n + 1, hn⟩ j _ _ _ ih

/-- The running sum moves one block of rows on. -/
theorem row_step (c : Dev nD) (t : Fin cfg0.N) (v : EReal)
    (h : v = ∑ i ∈ Finset.range (512 * t.val), gap (pt0 m c i) (pt1 m c (near0 m c i))) :
    k0_pay5 (F := Ideal) (rabs m c t) v
      = ∑ i ∈ Finset.range (512 * (t.val + 1)), gap (pt0 m c i) (pt1 m c (near0 m c i)) := by
  rw [pay5_eq, Nat.mul_succ, sum_range_block, h]
  congr 1
  exact Finset.sum_congr rfl fun r _ => rabs_at m c t r (near0_spec m c _)

/-- After point `t` the running sum holds the differences of the rows so far. -/
theorem row_state (c : Dev nD) : ∀ (n : ℕ) (hn : n < cfg0.N),
    (outsAt0 m c n hn).2.2.2.2.2.2
      = fun _ => ∑ i ∈ Finset.range (512 * (n + 1)), gap (pt0 m c i) (pt1 m c (near0 m c i))
  | 0, hn => by
    have h0 : ((⟨0, hn⟩ : Fin cfg0.N).val) % 16 = 0 := rfl
    have h1 : ¬((⟨0, hn⟩ : Fin cfg0.N).val) % 16 = 15 := by simp
    have e := s2_A m c ⟨0, hn⟩ h0 h1
    dsimp only at e
    rw [e, row_step m c ⟨0, hn⟩]
    simp [Ideal.ofBits, Ideal.ieee]
  | n + 1, hn => by
    have h16 := lt16 ⟨n + 1, hn⟩
    dsimp only at h16
    have h0 : ¬((⟨n + 1, hn⟩ : Fin cfg0.N).val) % 16 = 0 := by dsimp only; omega
    have ih := row_state c n (by omega)
    by_cases h1 : ((⟨n + 1, hn⟩ : Fin cfg0.N).val) % 16 = 15
    · have e := s2_C m c ⟨n + 1, hn⟩ h0 h1
      dsimp only at e
      rw [e]
      funext _
      exact row_step m c ⟨n + 1, hn⟩ _ (congrFun ih _)
    · have e := s2_B m c ⟨n + 1, hn⟩ h0 h1
      dsimp only at e
      rw [e]
      funext _
      exact row_step m c ⟨n + 1, hn⟩ _ (congrFun ih _)

/-- Each point writes its rows' nearest columns. -/
theorem row_index (c : Dev nD) (t : Fin cfg0.N) (r : Fin 512) :
    (outsAt0 m c t.val t.isLt).1 (ix2 r 0) = BitVec.ofNat 32 (near0 m c (512 * t.val + r.val)) := by
  have e : (outsAt0 m c t.val t.isLt).1 = k0_pay13 (F := Ideal) (iblk m c 0 t) (iblk m c 1 t) := by
    by_cases h0 : t.val % 16 = 0
    · exact o2_A m c t h0 (by omega)
    · by_cases h1 : t.val % 16 = 15
      · exact o2_C m c t h0 h1
      · exact o2_B m c t h0 h1
  rw [e]
  exact ridx_at m c t r (near0_spec m c _)

/-- The last point writes each column's nearest row, where the column's least distance is below `⊤`. -/
theorem col_index (c : Dev nD) (t : Fin cfg0.N) (h1 : t.val % 16 = 15) (j : Fin 8192)
    (hj : dst (pt0 m c (near1 m c j.val)) (pt1 m c j.val) < ⊤) :
    (outsAt0 m c t.val t.isLt).2.1 (ix2 0 j) = BitVec.ofNat 32 (near1 m c j.val) := by
  have h := column_state m c j t.val t.isLt
  rw [show 512 * (t.val + 1) = 8192 by have := lt16 t; omega] at h
  exact (h.final (near1_spec m c j.val) hj).1

/-- The last point writes the sum of the rows' differences. -/
theorem row_sum (c : Dev nD) (t : Fin cfg0.N) (h1 : t.val % 16 = 15) :
    (outsAt0 m c t.val t.isLt).2.2.1
      = fun _ => ∑ i ∈ Finset.range 8192, gap (pt0 m c i) (pt1 m c (near0 m c i)) := by
  have h := row_state m c t.val t.isLt
  rw [s2_C m c t (by omega) h1, show 512 * (t.val + 1) = 8192 by have := lt16 t; omega] at h
  rw [o4_C m c t (by omega) h1]
  exact h

/-- The last point writes the sum of the columns' differences, where every column's least distance is below `⊤`. -/
theorem col_sum (c : Dev nD) (t : Fin cfg0.N) (h1 : t.val % 16 = 15)
    (hj : ∀ j, dst (pt0 m c (near1 m c j)) (pt1 m c j) < ⊤) :
    (outsAt0 m c t.val t.isLt).2.2.2.1
      = fun _ => ∑ j ∈ Finset.range 8192, gap (pt1 m c j) (pt0 m c (near1 m c j)) := by
  rw [o5_C m c t (by omega) h1, ← s1_C m c t (by omega) h1]
  funext _
  rw [pay6_eq, ← Fin.sum_univ_eq_sum_range (fun j => gap (pt1 m c j) (pt0 m c (near1 m c j)))]
  refine Finset.sum_congr rfl fun j _ => ?_
  have h := column_state m c j t.val t.isLt
  rw [show 512 * (t.val + 1) = 8192 by have := lt16 t; omega] at h
  exact (h.final (near1_spec m c j.val) (hj j)).2

end Cert.KernelIdeal.Step
-- ==== Proof.Final.lean ====
module

public import proofs.«01_k».proof.Proof.Carry
public import Idealize.ShloMosaic.Adequacy

/-!
# The arrays the kernel's region leaves

The row indices come block by block, one block per point; the column indices and the two sums are written once,
by the last point.
-/

@[expose] public section

set_option maxRecDepth 16384

noncomputable section

namespace Cert.KernelIdeal.Step

open Cert.KernelIdeal Cert.KernelIdeal.Gen Idealize.ShloMosaic Idealize.ShloMosaic.TcCoe Idealize.SL.Sem Cert.Nearest

variable (m : (ℓ : Loc nD τ sig) → Buf (Elt Ideal) ℓ)

/-- The array of the row indices: each row's nearest column. -/
theorem arr2 (c : Dev nD) : (dats m 0 c).arrAt 2 cfg0.N
    = (fun i : S8192x1.Idx => BitVec.ofNat 32 (near0 m c (i 0).val) : Vec Ideal S8192x1 .i32) := by
  refine (dats m 0 c).arrAt_eq_of_covers 2 _ (by decide +kernel) fun t hf y => ?_
  blk_simp
  rw [after0_2, (idx t).2.2.1]
  have h := row_index m c t (y 0)
  have e : (y : S512x1.Idx) = ix2 (y 0) 0 := by
    funext a
    match a with
    | ⟨0, _⟩ => rfl
    | ⟨1, _⟩ => exact Subsingleton.elim (α := Fin 1) _ _
  replace h := (congrArg _ e).trans h
  refine h.trans ?_
  show _ = BitVec.ofNat 32 (near0 m c (t.val * 512 + (y 0).val))
  rw [mul_comm]

/-- The array of the column indices: each column's nearest row, where its least distance is below `⊤`. -/
theorem arr3 (c : Dev nD) (hj : ∀ j, dst (pt0 m c (near1 m c j)) (pt1 m c j) < ⊤) : (dats m 0 c).arrAt 3 cfg0.N
    = (fun i : S1x8192.Idx => BitVec.ofNat 32 (near1 m c (i 1).val) : Vec Ideal S1x8192 .i32) := by
  refine (dats m 0 c).arrAt_eq_of_covers 3 _ (by decide +kernel) fun t hf y => ?_
  have h1 := (flush0_3 t).1 hf
  blk_simp
  rw [after0_3, (idx t).2.2.2.1]
  have h := col_index m c t h1 (y 1) (hj _)
  have e : (y : S1x8192.Idx) = ix2 0 (y 1) := by
    funext a
    match a with
    | ⟨0, _⟩ => exact Subsingleton.elim (α := Fin 1) _ _
    | ⟨1, _⟩ => rfl
  replace h := (congrArg _ e).trans h
  refine h.trans ?_
  show _ = BitVec.ofNat 32 (near1 m c (0 * 8192 + (y 1).val))
  rw [zero_mul, zero_add]

/-- The row sum. -/
theorem arr4 (c : Dev nD) : (dats m 0 c).arrAt 4 cfg0.N
    = (fun _ => ∑ i ∈ Finset.range 8192, gap (pt0 m c i) (pt1 m c (near0 m c i)) : Vec Ideal S1 .f32) := by
  refine (dats m 0 c).arrAt_eq_of_covers 4 _ (by decide +kernel) fun t hf y => ?_
  have h1 := (flush0_4 t).1 hf
  blk_simp
  rw [after0_4, row_sum m c t h1]

/-- The column sum, where every column's least distance is below `⊤`. -/
theorem arr5 (c : Dev nD) (hj : ∀ j, dst (pt0 m c (near1 m c j)) (pt1 m c j) < ⊤) : (dats m 0 c).arrAt 5 cfg0.N
    = (fun _ => ∑ j ∈ Finset.range 8192, gap (pt1 m c j) (pt0 m c (near1 m c j)) : Vec Ideal S1 .f32) := by
  refine (dats m 0 c).arrAt_eq_of_covers 5 _ (by decide +kernel) fun t hf y => ?_
  have h1 := (flush0_5 t).1 hf
  blk_simp
  rw [after0_5, col_sum m c t h1 hj]

/-- The contents of the buffers as the region leaves them. -/
def left (c : Dev nD) : Valuation τ sig (Elt Ideal) :=
  Pipeline.withArrays (cfgs 0).spec c (V0 m c) fun w => (dats m 0 c).arrAt w (cfgs 0).N

/-- The region leaves the row indices. -/
theorem left_v1_0 (c : Dev nD) : left m c (Proc.tc.devRef main_v1_0)
    = (fun i : S8192x1.Idx => BitVec.ofNat 32 (near0 m c (i 0).val) : Vec Ideal S8192x1 .i32) :=
  (Pipeline.withArrays_arr (cfgs 0).spec (by decide) c (V0 m c) (fun w => (dats m 0 c).arrAt w (cfgs 0).N) 2).trans (arr2 m c)

/-- The region leaves the column indices. -/
theorem left_v1_1 (c : Dev nD) (hj : ∀ j, dst (pt0 m c (near1 m c j)) (pt1 m c j) < ⊤) :
    left m c (Proc.tc.devRef main_v1_1)
      = (fun i : S1x8192.Idx => BitVec.ofNat 32 (near1 m c (i 1).val) : Vec Ideal S1x8192 .i32) :=
  (Pipeline.withArrays_arr (cfgs 0).spec (by decide) c (V0 m c) (fun w => (dats m 0 c).arrAt w (cfgs 0).N) 3).trans
    (arr3 m c hj)

/-- The region leaves the row sum. -/
theorem left_v1_2 (c : Dev nD) : left m c (Proc.tc.devRef main_v1_2)
    = (fun _ => ∑ i ∈ Finset.range 8192, gap (pt0 m c i) (pt1 m c (near0 m c i)) : Vec Ideal S1 .f32) :=
  (Pipeline.withArrays_arr (cfgs 0).spec (by decide) c (V0 m c) (fun w => (dats m 0 c).arrAt w (cfgs 0).N) 4).trans (arr4 m c)

/-- The region leaves the column sum. -/
theorem left_v1_3 (c : Dev nD) (hj : ∀ j, dst (pt0 m c (near1 m c j)) (pt1 m c j) < ⊤) :
    left m c (Proc.tc.devRef main_v1_3)
      = (fun _ => ∑ j ∈ Finset.range 8192, gap (pt1 m c j) (pt0 m c (near1 m c j)) : Vec Ideal S1 .f32) :=
  (Pipeline.withArrays_arr (cfgs 0).spec (by decide) c (V0 m c) (fun w => (dats m 0 c).arrAt w (cfgs 0).N) 5).trans
    (arr5 m c hj)

/-- The region leaves the first weight alone. -/
theorem left_arg2 (c : Dev nD) : left m c (Proc.tc.devRef main_arg2) = m (c, Proc.tc.devRef main_arg2) :=
  (Pipeline.withArrays_of_ne (cfgs 0).spec c (V0 m c) (fun w => (dats m 0 c).arrAt w (cfgs 0).N) main_arg2 (by decide)).trans
    (V_main_arg2 m c)

/-- The region leaves the second weight alone. -/
theorem left_arg3 (c : Dev nD) : left m c (Proc.tc.devRef main_arg3) = m (c, Proc.tc.devRef main_arg3) :=
  (Pipeline.withArrays_of_ne (cfgs 0).spec c (V0 m c) (fun w => (dats m 0 c).arrAt w (cfgs 0).N) main_arg3 (by decide)).trans
    (V_main_arg3 m c)

/-- The first set's weight. -/
def weight0 (c : Dev nD) : EReal := (m (c, Proc.tc.devRef main_arg2) : Vec Ideal S_ .f32) ix0

/-- The second set's weight. -/
def weight1 (c : Dev nD) : EReal := (m (c, Proc.tc.devRef main_arg3) : Vec Ideal S_ .f32) ix0

/-- The kernel's first result: the two weighted sums of differences, each divided by `2^27`. -/
theorem tail_v8 (c : Dev nD) (hj : ∀ j, dst (pt0 m c (near1 m c j)) (pt1 m c j) < ⊤) :
    Pipeline.afterTail₀ cfgs (dats m) 0 (V0 m) [hostOps1] c main_v8
      = (fun _ => Ideal.div ((∑ i ∈ Finset.range 8192, gap (pt0 m c i) (pt1 m c (near0 m c i))) * weight0 m c)
            (Ideal.ofBits .f32 0x4D000000#32)
          + Ideal.div ((∑ j ∈ Finset.range 8192, gap (pt1 m c j) (pt0 m c (near1 m c j))) * weight1 m c)
            (Ideal.ofBits .f32 0x4D000000#32) : Vec Ideal S_ .f32) := by
  change StableHlo.after hostOps1 (left m c) (Proc.tc.devRef main_v8) = _
  after_results
  funext i
  pointwise
  rw [left_v1_2, left_v1_3 m c hj, left_arg2, left_arg3, show i = ix0 from funext fun a => a.elim0]
  rfl

/-- The kernel's second result: each row's nearest column. -/
theorem tail_v9 (c : Dev nD) : Pipeline.afterTail₀ cfgs (dats m) 0 (V0 m) [hostOps1] c main_v9
    = (fun i : S8192.Idx => BitVec.ofNat 32 (near0 m c (i 0).val) : Vec Ideal S8192 .i32) := by
  change StableHlo.after hostOps1 (left m c) (Proc.tc.devRef main_v9) = _
  after_results
  rw [left_v1_0]
  funext i
  pointwise

/-- The kernel's third result: each column's nearest row. -/
theorem tail_v10 (c : Dev nD) (hj : ∀ j, dst (pt0 m c (near1 m c j)) (pt1 m c j) < ⊤) :
    Pipeline.afterTail₀ cfgs (dats m) 0 (V0 m) [hostOps1] c main_v10
      = (fun i : S8192.Idx => BitVec.ofNat 32 (near1 m c (i 0).val) : Vec Ideal S8192 .i32) := by
  change StableHlo.after hostOps1 (left m c) (Proc.tc.devRef main_v10) = _
  after_results
  rw [left_v1_1 m c hj]
  funext i
  pointwise

/-- The kernel's run, read: the three results in closed form, the arguments unchanged. -/
theorem run (ρ : Dev nD → PrngReg) (hj : ∀ c j, dst (pt0 m c (near1 m c j)) (pt1 m c j) < ⊤) :
    θ_run (defs (F := Ideal)) (onTc (τ := τ) (main (F := Ideal))) ⟨m, fun _ => 0, ρ⟩ (fun r => (∀ c : Dev nD,
      r.2.mem ((c.tc : Thread nD τ).loc main_v8)
        = (fun _ => Ideal.div ((∑ i ∈ Finset.range 8192, gap (pt0 m c i) (pt1 m c (near0 m c i))) * weight0 m c)
            (Ideal.ofBits .f32 0x4D000000#32)
          + Ideal.div ((∑ j ∈ Finset.range 8192, gap (pt1 m c j) (pt0 m c (near1 m c j))) * weight1 m c)
            (Ideal.ofBits .f32 0x4D000000#32) : Vec Ideal S_ .f32)
      ∧ r.2.mem ((c.tc : Thread nD τ).loc main_v9)
        = (fun i : S8192.Idx => BitVec.ofNat 32 (near0 m c (i 0).val) : Vec Ideal S8192 .i32)
      ∧ r.2.mem ((c.tc : Thread nD τ).loc main_v10)
        = (fun i : S8192.Idx => BitVec.ofNat 32 (near1 m c (i 0).val) : Vec Ideal S8192 .i32))
      ∧ ∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine θ_run_and ?_ (unchanged m ρ)
  run_from (run_main m ρ)
  · exact tail_v8 m c (hj c)
  · exact tail_v9 m c
  · exact tail_v10 m c (hj c)

end Cert.KernelIdeal.Step
-- ==== Proof.RefFold.lean ====
module

public import proofs.«01_k».proof.Proof.Gen.ReferenceIdeal
public import proofs.«01_k».proof.Proof.Pure
public import Idealize.ShloMosaic.Lib.Pipeline.ValueKit
public import Idealize.ShloMosaic.Lib.ValueIdx
public import Idealize.ShloMosaic.Lib.Pointwise
public import Idealize.ShloMosaic.Lib.Claim
public import Idealize.ShloMosaic.Adequacy

/-!
# The reference's search for the nearest point

The reference finds a nearest point by a fold over pairs of a distance and an index, keeping the lower pair.
-/

@[expose] public section

set_option maxRecDepth 16384

noncomputable section

namespace Cert.ReferenceIdeal.Read

open Cert.ReferenceIdeal Cert.ReferenceIdeal.Gen Idealize.ShloMosaic Idealize.ShloMosaic.TcCoe Idealize.SL.Sem Cert.Nearest

/-- The reference's reducer takes the lower of two pairs. -/
theorem reducer_eq : (reducer_argmin_f32_i32 (F := Ideal)) = lower := by
  funext a b
  obtain ⟨a, k⟩ := a
  obtain ⟨b, l⟩ := b
  unfold reducer_argmin_f32_i32 lower
  dsimp only
  rcases lt_trichotomy a b with h | h | h
  · simp [Ideal.cmpf_def, Ideal.cmp, IntOp.ori, IntOp.andi, IntOp.cmpi, Scalar.select, h, ne_of_lt h]
  · subst h
    by_cases hk : k.toInt < l.toInt
    · simp [Ideal.cmpf_def, Ideal.cmp, IntOp.ori, IntOp.andi, IntOp.cmpi, Scalar.select, hk, BitVec.slt]
    · simp [Ideal.cmpf_def, Ideal.cmp, IntOp.ori, IntOp.andi, IntOp.cmpi, Scalar.select, hk, BitVec.slt]
  · simp [Ideal.cmpf_def, Ideal.cmp, IntOp.ori, IntOp.andi, IntOp.cmpi, Scalar.select, h, ne_of_gt h, not_lt.2 (le_of_lt h)]

/-- The pairs the reference's reduction folds over at `j`: those whose index the reduction takes to `j`. -/
theorem mem_fiber {s t : Shape} {axes : List (Fin s.rank)} {α β : Type} (x : s.Idx → α) (y : s.Idx → β)
    (h : s.ReducesTo axes t) (j : t.Idx) (p : α × β) :
    p ∈ Host.argReduceFiber x y h j ↔ ∃ z : s.Idx, h.drop z = j ∧ p = (x z, y z) := by
  unfold Host.argReduceFiber
  constructor
  · intro hp
    obtain ⟨n, hn, rfl⟩ := List.mem_map.1 hp
    exact ⟨s.rowMajor.symm n, of_decide_eq_true (List.mem_filter.1 hn).2, rfl⟩
  · rintro ⟨z, hz, rfl⟩
    refine List.mem_map.2 ⟨s.rowMajor z, List.mem_filter.2 ⟨List.mem_finRange _, ?_⟩, ?_⟩
    · rw [Equiv.symm_apply_apply]; exact decide_eq_true hz
    · rw [Equiv.symm_apply_apply]

/-- A reduction of pairs to a lowest one, at an entry whose pairs are the values `f i` with their numbers `i`:
the number it leaves, as `g` does, is that of the first minimum of `f`. -/
theorem argReduce_first {s t u : Shape} {axes : List (Fin s.rank)} (x : FVec Ideal s .f32) (y : IVec s 32)
    (x₀ : FVec Ideal u .f32) (y₀ : IVec u 32) (hu : 0 < u.numel) (hx₀ : ∀ z, x₀ z = Ideal.ofBits .f32 0x7F800000#32)
    (hy₀ : ∀ z, y₀ z = 0#32) (h : s.ReducesTo axes t) (j : t.Idx) {n k : ℕ} (hn : n < 2 ^ 31) (f : ℕ → EReal)
    (hk : FirstMin n f k) (e : Fin n → s.Idx) (hd : ∀ z, h.drop z = j ↔ ∃ i, z = e i) (hx : ∀ i, x (e i) = f i.val)
    (hy : ∀ i, y (e i) = BitVec.ofNat 32 i.val) (g : IVec t 32)
    (hg : g = fun j => (Host.argReduce (reducer_argmin_f32_i32 (F := Ideal)) x y x₀ y₀ h hu j).2) :
    g j = BitVec.ofNat 32 k := by
  subst hg
  show (Host.argReduce (reducer_argmin_f32_i32 (F := Ideal)) x y x₀ y₀ h hu j).2 = BitVec.ofNat 32 k
  rw [Ideal.argReduce_eq_reduce2, Host.reduce2_eq_foldl_fiber, reducer_eq, hx₀, hy₀]
  rw [foldl_lower_first hn hk]
  · intro i hi
    exact (mem_fiber _ _ _ _ _).2 ⟨e ⟨i, hi⟩, (hd _).2 ⟨_, rfl⟩, by rw [hx, hy]⟩
  · intro q hq
    obtain ⟨z, hz, rfl⟩ := (mem_fiber _ _ _ _ _).1 hq
    obtain ⟨i, rfl⟩ := (hd z).1 hz
    exact ⟨i.val, i.isLt, by rw [hx, hy]⟩

end Cert.ReferenceIdeal.Read
-- ==== Proof.RefRead.lean ====
module

public import proofs.«01_k».proof.Proof.Gen.ReferenceIdeal
public import proofs.«01_k».proof.Proof.RefFold
public import Idealize.ShloMosaic.Lib.Pipeline.ValueKit
public import Idealize.ShloMosaic.Lib.ValueIdx
public import Idealize.ShloMosaic.Lib.Pointwise
public import Idealize.ShloMosaic.Lib.Claim
public import Idealize.ShloMosaic.Lib.Routing.Ops
public import Idealize.ShloMosaic.Adequacy

/-!
# The reference, read

The reference computes each set's distances to the other, the first nearest point by a fold over pairs of a
distance and an index, and the mean absolute differences by a gather at the indices found.
-/

@[expose] public section

set_option maxRecDepth 16384

noncomputable section

namespace Cert.ReferenceIdeal.Read

open Idealize.ShloMosaic.Routing Cert.ReferenceIdeal Cert.ReferenceIdeal.Gen Idealize.ShloMosaic Idealize.ShloMosaic.TcCoe Idealize.SL.Sem Cert.Nearest

/-- The points of an array, by number. -/
def rows (x : FVec Ideal S8192x2 .f32) (i : ℕ) (a : Fin 2) : EReal := x (ix2 (Fin.ofNat 8192 i) a)

/-- The reference's distances of the points of `x` to those of `y`. -/
def refDist (x y : FVec Ideal S8192x2 .f32) : FVec Ideal S8192x8192 .f32 :=
  Host.sqrt (maximumf (subf
    (addf
      (broadcastInDim S8192x8192 ![0, 1] bcast_S8192x1_S8192x8192_0_1 (broadcastInDim S8192x1 ![0] bcast_S8192_S8192x1_0
        (Host.reduceAdd (mulf x x) (constant S_ .f32 0x00000000#32) reducesTo_S8192x2_S8192_d1 h_S_)))
      (broadcastInDim S8192x8192 ![0, 1] bcast_S1x8192_S8192x8192_0_1 (broadcastInDim S1x8192 ![1] bcast_S8192_S1x8192_1
        (Host.reduceAdd (mulf y y) (constant S_ .f32 0x00000000#32) reducesTo_S8192x2_S8192_d1 h_S_))))
    (mulf (broadcastInDim S8192x8192 ![] bcast_S_S8192x8192 (constant S_ .f32 0x40000000#32))
      (Host.dotGeneral dot_S8192x2_S2x8192_S8192x8192_1_0_0_1_n_n none x
        (transpose S2x8192 [1, 0] y transposes_S8192x2_S2x8192_1_0))))
    (broadcastInDim S8192x8192 ![] bcast_S_S8192x8192 (constant S_ .f32 0x00000000#32)))

/-- The reference's nearest points in `y` to the points of `x`. -/
def refArg (x y : FVec Ideal S8192x2 .f32) : IVec S8192 32 := fun j =>
  (Host.argReduce (reducer_argmin_f32_i32 (F := Ideal)) (refDist x y) (iotaInDim S8192x8192 32 1)
    (constant S_ .f32 0x7F800000#32) (constantI S_ 32 0#32) reducesTo_S8192x8192_S8192_d1 h_S_ j).2

/-- The points of `y` at the indices `k`, a negative index counting from the end. -/
def refTake (y : FVec Ideal S8192x2 .f32) (k : IVec S8192 32) : FVec Ideal S8192x2 .f32 :=
  Host.gather gather_S8192x2_S8192x1_S8192x2_1_0_n_n_0_1_12 y
    (broadcastInDim S8192x1 ![0] bcast_S8192_S8192x1_0
      (select (cmpi .slt k (broadcastInDim S8192 ![] bcast_S_S8192 (constantI S_ 32 0#32)))
        (addi k (broadcastInDim S8192 ![] bcast_S_S8192 (constantI S_ 32 8192#32))) k))

/-- The reference's weighted mean absolute difference of the points of `x` and those of `y` at the indices `k`. -/
def refTerm (x y : FVec Ideal S8192x2 .f32) (k : IVec S8192 32) (w : FVec Ideal S_ .f32) : FVec Ideal S_ .f32 :=
  Host.divf (mulf (Host.divf
    (Host.reduceAdd (Host.sqrt (mulf (subf x (refTake y k)) (subf x (refTake y k)))) (constant S_ .f32 0x00000000#32)
      reducesTo_S8192x2_S_d0_1 h_S_)
    (constant S_ .f32 0x46800000#32)) w) (constant S_ .f32 0x46000000#32)

/-- The reference's distances are the distances. -/
theorem refDist_at (x y : FVec Ideal S8192x2 .f32) (i j : Fin 8192) :
    refDist x y (ix2 i j) = dst (rows x i.val) (rows y j.val) := by
  have hi : Fin.ofNat 8192 i.val = i := Fin.ext (Nat.mod_eq_of_lt i.isLt)
  have hj : Fin.ofNat 8192 j.val = j := Fin.ext (Nat.mod_eq_of_lt j.isLt)
  unfold refDist dst rows
  rw [hi, hj]
  pointwise

/-- Reducing the second axis keeps the first coordinate. -/
theorem drop_eq (z : S8192x8192.Idx) (i : Fin 8192) :
    (reducesTo_S8192x8192_S8192_d1).drop z = ix1 i ↔ ∃ j : Fin 8192, z = ix2 i j := by
  constructor
  · intro h
    have hz : z 0 = i := congrFun h 0
    refine ⟨z 1, ?_⟩
    funext a
    match a with
    | ⟨0, _⟩ => exact hz
    | ⟨1, _⟩ => rfl
  · rintro ⟨j, rfl⟩
    funext a
    match a with
    | ⟨0, _⟩ => rfl

/-- The reference's index of point `i` is the first nearest point. -/
theorem refArg_at (x y : FVec Ideal S8192x2 .f32) (i : Fin 8192) {k : ℕ}
    (hk : FirstMin 8192 (fun j => dst (rows x i.val) (rows y j)) k) : refArg x y (ix1 i) = BitVec.ofNat 32 k :=
  argReduce_first (refDist x y) (iotaInDim S8192x8192 32 1) (constant S_ .f32 0x7F800000#32) (constantI S_ 32 0#32)
    h_S_ (fun _ => rfl) (fun _ => rfl) reducesTo_S8192x8192_S8192_d1 (ix1 i) (by norm_num) _ hk (fun j : Fin 8192 => ix2 i j)
    (fun z => drop_eq z i) (fun j => refDist_at x y i j) (fun _ => rfl) (refArg x y) rfl

/-- The points gathered at in-range indices are the points at those indices. -/
theorem refTake_at (y : FVec Ideal S8192x2 .f32) (k : IVec S8192 32) (i : Fin 8192) (a : Fin 2) {l : ℕ} (hl : l < 8192)
    (h : k (ix1 i) = BitVec.ofNat 32 l) : refTake y k (ix2 i a) = rows y l a := by
  have hb : broadcastInDim S8192x1 ![0] bcast_S8192_S8192x1_0
      (select (cmpi .slt k (broadcastInDim S8192 ![] bcast_S_S8192 (constantI S_ 32 0#32)))
        (addi k (broadcastInDim S8192 ![] bcast_S_S8192 (constantI S_ 32 8192#32))) k) (ix2 i (0 : Fin 1))
      = BitVec.ofNat 32 l := by
    pointwise
    rw [h]
    have hp : ¬ (BitVec.ofNat 32 l).toInt < 0 := by rw [toInt_word (by omega)]; omega
    simp [Scalar.select, IntOp.cmpi, BitVec.slt, hp]
  have e : Fin.ofNat 8192 l = ⟨l, hl⟩ := Fin.ext (Nat.mod_eq_of_lt hl)
  have h' := gather_row gather_S8192x2_S8192x1_S8192x2_1_0_n_n_0_1_12 rfl rfl rfl rfl rfl y _ i a ⟨l, hl⟩ hb (by norm_num)
  unfold refTake rows
  rw [e]
  exact h'

/-- The reference's term is the sum of the gaps, divided by 16384, weighted, and divided by 8192. -/
theorem refTerm_eq (x y : FVec Ideal S8192x2 .f32) (k : IVec S8192 32) (w : FVec Ideal S_ .f32) (l : ℕ → ℕ)
    (hl : ∀ i < 8192, l i < 8192) (h : ∀ i : Fin 8192, k (ix1 i) = BitVec.ofNat 32 (l i.val)) :
    refTerm x y k w = fun _ => Ideal.div (Ideal.div (∑ i ∈ Finset.range 8192, gap (rows x i) (rows y (l i)))
      (Ideal.ofBits .f32 0x46800000#32) * w ix0) (Ideal.ofBits .f32 0x46000000#32) := by
  have hs : (∑ i : Fin 8192, ∑ a : Fin 2, Ideal.sqrt ((x (ix2 i a) - refTake y k (ix2 i a)) * (x (ix2 i a) - refTake y k (ix2 i a))))
      = ∑ i ∈ Finset.range 8192, gap (rows x i) (rows y (l i)) := by
    rw [← Fin.sum_univ_eq_sum_range (fun i => gap (rows x i) (rows y (l i)))]
    refine Finset.sum_congr rfl fun i _ => Finset.sum_congr rfl fun a _ => ?_
    have e : Fin.ofNat 8192 i.val = i := Fin.ext (Nat.mod_eq_of_lt i.isLt)
    rw [sqrt_mul_self, refTake_at y k i a (hl _ i.isLt) (h i)]
    unfold rows
    rw [e]
  rw [← hs]
  unfold refTerm
  generalize refTake y k = z
  funext j
  rw [show j = ix0 from funext fun a => a.elim0]
  pointwise

end Cert.ReferenceIdeal.Read
-- ==== Proof.RefRun.lean ====
module

public import proofs.«01_k».proof.Proof.RefRead

/-!
# The reference's run

The reference runs to the end with its arguments unchanged, and its three results are the terms that the reading
of the reference is about.
-/

@[expose] public section

set_option maxRecDepth 16384

noncomputable section

namespace Cert.ReferenceIdeal.Read

open Cert.ReferenceIdeal Cert.ReferenceIdeal.Gen Idealize.ShloMosaic Idealize.ShloMosaic.TcCoe Idealize.SL.Sem Cert.Nearest

variable (m : (ℓ : Loc nD τ sig) → Buf (Elt Ideal) ℓ)

/-- The reference's run, read: each result as its term of the arguments, the arguments unchanged. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v64)
        = addf (F := Ideal) (refTerm (m ((c.tc : Thread nD τ).loc main_arg0)) (m ((c.tc : Thread nD τ).loc main_arg1))
              (refArg (m ((c.tc : Thread nD τ).loc main_arg0)) (m ((c.tc : Thread nD τ).loc main_arg1)))
              (m ((c.tc : Thread nD τ).loc main_arg2)))
            (refTerm (m ((c.tc : Thread nD τ).loc main_arg1)) (m ((c.tc : Thread nD τ).loc main_arg0))
              (refArg (m ((c.tc : Thread nD τ).loc main_arg1)) (m ((c.tc : Thread nD τ).loc main_arg0)))
              (m ((c.tc : Thread nD τ).loc main_arg3)))
      ∧ r.2.mem ((c.tc : Thread nD τ).loc main_v17)
        = refArg (m ((c.tc : Thread nD τ).loc main_arg0)) (m ((c.tc : Thread nD τ).loc main_arg1))
      ∧ r.2.mem ((c.tc : Thread nD τ).loc main_v35)
        = refArg (m ((c.tc : Thread nD τ).loc main_arg1)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  hlo_run
  · rfl
  · rfl
  · rfl

/-- The reference terminates with its arguments unchanged and every semaphore at zero. -/
theorem unchanged (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run (defs (F := Ideal)) _ _).mono (fun r h => ⟨fun c => (h c).2.2.2, sem_eq_zero_of_no_sems (by decide) r.2⟩) (run m ρ)

end Cert.ReferenceIdeal.Read
-- ==== Proof.Finite.lean ====
module

public import proofs.«01_k».proof.Pre_points_finite
public import proofs.«01_k».proof.Proof.Pure
public import Idealize.ShloMosaic.Lib.ReduceAll
public import Idealize.ShloMosaic.Lib.ValueIdx
public import Idealize.ShloMosaic.Lib.Pointwise

/-!
# The precondition, read

The precondition's bit is set only when every coordinate of every point is a real number.
-/

@[expose] public section

set_option maxRecDepth 16384

noncomputable section

namespace Cert.Finite

open Cert.Pre_points_finite Cert.Pre_points_finite.Facts Idealize.ShloMosaic Cert.Nearest

/-- The side conditions of the precondition's operations. -/
instance facts : Cert.Pre_points_finite.Facts where
  bcast_S_S8192x2 := by decide
  reducesTo_S8192x2_S_d0_1 := by decide
  h_S_ := by decide

/-- An array of no axes has one index. -/
instance : Subsingleton S_.Idx := ⟨fun a b => funext fun x => x.elim0⟩

/-- A value whose absolute value is below infinity is a real number. -/
theorem real_of_abs (x : EReal) (h : max x (-x) < ⊤) : ∃ r : ℝ, x = (r : EReal) := by
  induction x with
  | bot => simp at h
  | top => simp at h
  | coe r => exact ⟨r, rfl⟩

/-- An array whose elements all pass the precondition's test has only real numbers. -/
theorem real_of_reduce (x : FVec Ideal S8192x2 .f32) (j : S_.Idx)
    (h : Host.reduce IntOp.andi (cmpf .olt (Host.absf x) (broadcastInDim S8192x2 ![] bcast_S_S8192x2
      (constant (F := Ideal) S_ .f32 0x7F800000#32))) (constantI S_ 1 1#1) reducesTo_S8192x2_S_d0_1 h_S_ j = 1#1) (z : S8192x2.Idx) :
    ∃ r : ℝ, x z = (r : EReal) := by
  have e : Ideal.cmp .olt (max (x z) (-(x z))) (Ideal.ofBits .f32 0x7F800000#32) = 1#1 :=
    Host.reduce_andi_all _ _ _ _ j h z
  rw [ofBits_inf] at e
  refine real_of_abs _ ?_
  by_contra hn
  simp [Ideal.cmp, hn] at e

/-- Where the precondition holds, every coordinate of the points of both sets is a real number. -/
theorem real_of_pre (a0 a1 : FVec Ideal S8192x2 .f32) (a2 a3 : FVec Ideal S_ .f32)
    (h : fn (F := Ideal) a0 a1 a2 a3 = fun _ => 1#1) :
    (∀ z, ∃ r : ℝ, a0 z = (r : EReal)) ∧ ∀ z, ∃ r : ℝ, a1 z = (r : EReal) := by
  have e := congrFun h (fun a => a.elim0)
  have e' := IntOp.andi_eq_one.1 e
  exact ⟨real_of_reduce a0 _ e'.1, real_of_reduce a1 _ e'.2⟩

end Cert.Finite
-- ==== Proof.Equal.lean ====
module

public import proofs.«01_k».proof.Defs
public import proofs.«01_k».proof.Proof.Final
public import proofs.«01_k».proof.Proof.RefRun
public import proofs.«01_k».proof.Proof.Finite

/-!
# The kernel and the reference, compared

From memories that agree on the arguments, and on points that are real numbers, the two programs' results are the
same: the nearest points are the first minima of the same distances, and each mean is the same sum of gaps, scaled
once by the kernel and twice by the reference.
-/

@[expose] public section

set_option maxRecDepth 16384

noncomputable section

namespace Cert.Equal

open Idealize.ShloMosaic Idealize.ShloMosaic.TcCoe Idealize.SL.Sem Cert.Nearest Cert.KernelIdeal.Step Cert.ReferenceIdeal.Read

variable (m : (ℓ : Loc Cert.KernelIdeal.nD Cert.KernelIdeal.τ Cert.KernelIdeal.sig) → Buf (Elt Ideal) ℓ)

/-- The first set's points, as the kernel holds them. -/
abbrev set0 (c : Dev Cert.KernelIdeal.nD) : FVec Ideal Cert.ReferenceIdeal.S8192x2 .f32 :=
  m ((c.tc : Thread Cert.KernelIdeal.nD Cert.KernelIdeal.τ).loc Cert.KernelIdeal.main_arg0)

/-- The second set's points, as the kernel holds them. -/
abbrev set1 (c : Dev Cert.KernelIdeal.nD) : FVec Ideal Cert.ReferenceIdeal.S8192x2 .f32 :=
  m ((c.tc : Thread Cert.KernelIdeal.nD Cert.KernelIdeal.τ).loc Cert.KernelIdeal.main_arg1)

/-- The reference's nearest points of the first set are the kernel's. -/
theorem arg0 (c : Dev Cert.KernelIdeal.nD) (i : Fin 8192) :
    refArg (set0 m c) (set1 m c) (ix1 i) = BitVec.ofNat 32 (near0 m c i.val) :=
  refArg_at (set0 m c) (set1 m c) i (near0_spec m c i.val)

/-- The reference's nearest points of the second set are the kernel's. -/
theorem arg1 (c : Dev Cert.KernelIdeal.nD) (j : Fin 8192) :
    refArg (set1 m c) (set0 m c) (ix1 j) = BitVec.ofNat 32 (near1 m c j.val) :=
  refArg_at (set1 m c) (set0 m c) j
    ((near1_spec m c j.val).congr fun i _ => dst_comm (pt0 m c i) (pt1 m c j.val))

/-- An array of indices is its entries. -/
theorem arg_eq (k : IVec Cert.ReferenceIdeal.S8192 32) (l : ℕ → ℕ) (h : ∀ i : Fin 8192, k (ix1 i) = BitVec.ofNat 32 (l i.val)) :
    k = fun i => BitVec.ofNat 32 (l (i 0).val) := by
  funext i
  have e : i = ix1 (i 0) := by
    funext a
    match a with
    | ⟨0, _⟩ => rfl
  exact (congrArg k e).trans (h (i 0))

/-- On real points, the distance to a nearest point is below infinity. -/
theorem near_lt_top (hpre : Cert.Pre_KernelIdeal_points_finite m) (c : Dev Cert.KernelIdeal.nD) (j : ℕ) :
    dst (pt0 m c (near1 m c j)) (pt1 m c j) < ⊤ := by
  obtain ⟨h0, h1⟩ := Cert.Finite.real_of_pre _ _ _ _ (hpre c)
  choose r hr using h0
  choose s hs using h1
  have e0 : pt0 m c (near1 m c j) = fun a => ((r (ix2 (Fin.ofNat 8192 (near1 m c j)) a) : ℝ) : EReal) := funext fun a => hr _
  have e1 : pt1 m c j = fun a => ((s (ix2 (Fin.ofNat 8192 j) a) : ℝ) : EReal) := funext fun a => hs _
  rw [e0, e1]
  exact dst_lt_top _ _

/-- The reference's first result is the kernel's. -/
theorem loss (c : Dev Cert.KernelIdeal.nD) (w0 w1 : FVec Ideal Cert.ReferenceIdeal.S_ .f32) :
    addf (F := Ideal) (refTerm (set0 m c) (set1 m c) (refArg (set0 m c) (set1 m c)) w0)
        (refTerm (set1 m c) (set0 m c) (refArg (set1 m c) (set0 m c)) w1)
      = fun _ => Ideal.div ((∑ i ∈ Finset.range 8192, gap (pt0 m c i) (pt1 m c (near0 m c i))) * w0 ix0)
          (Ideal.ofBits .f32 0x4D000000#32)
        + Ideal.div ((∑ j ∈ Finset.range 8192, gap (pt1 m c j) (pt0 m c (near1 m c j))) * w1 ix0)
          (Ideal.ofBits .f32 0x4D000000#32) := by
  rw [refTerm_eq _ _ _ _ (near0 m c) (fun i _ => (near0_spec m c i).1) (arg0 m c),
    refTerm_eq _ _ _ _ (near1 m c) (fun j _ => (near1_spec m c j).1) (arg1 m c)]
  funext _
  rw [scale, scale]
  rfl

end Cert.Equal
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Equal
public import Idealize.ShloMosaic.Adequacy
public import Idealize.ShloMosaic.Init

@[expose] public section

noncomputable section

namespace Cert.Proof

open Idealize.ShloMosaic Idealize.ShloMosaic.TcCoe Idealize.SL.Sem Cert.Nearest Cert.Equal Cert.KernelIdeal.Step

/-- The kernel and the reference end with equal results, from memories that agree on the arguments. -/
theorem algebraic : Cert.algebraic_KernelIdeal_ReferenceIdeal_pre_points_finite := by
  intro m g m' g' hpre hagree
  refine ⟨_, _, _, (θ_run _ _ _).mono (fun r h c => ⟨(h.1 c).1, (h.1 c).2.1, (h.1 c).2.2, h.2 c⟩)
    (Cert.KernelIdeal.Step.run m g fun c j => near_lt_top m hpre c j), ?_⟩
  refine (θ_run _ _ _).mono (fun r h c => ?_) (Cert.ReferenceIdeal.Read.run m' g')
  obtain ⟨h0, h1, h2, hargs⟩ := h c
  obtain ⟨e0, e1, e2, e3⟩ := hagree c
  rw [e0, e1] at h1 h2
  rw [e0, e1, e2, e3] at h0
  exact ⟨h0.trans (loss m c _ _), h1.trans (arg_eq _ _ (arg0 m c)), h2.trans (arg_eq _ _ (arg1 m c)), hargs⟩

/-- The whole claim. -/
theorem claim : Cert.Claim :=
  ⟨Cert.Kernel.Gen.facts, Cert.KernelIdeal.Gen.facts, Cert.ReferenceIdeal.Gen.facts, Cert.Finite.facts,
    fun m ρ _ => Cert.Kernel.Gen.frame m ρ, fun m ρ _ => Cert.KernelIdeal.Gen.frame m ρ,
    fun m ρ _ => Cert.KernelIdeal.Gen.frame m ρ, fun m ρ _ => Cert.ReferenceIdeal.Read.unchanged m ρ,
    fun m ρ _ => Cert.ReferenceIdeal.Read.unchanged m ρ, trivial, algebraic⟩

end Cert.Proof

end
